-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v43) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S16x2048x2048 : Shape := ⟨3, ![16, 2048, 2048]⟩
abbrev S2048x128 : Shape := ⟨2, ![2048, 128]⟩
abbrev S16x4x128x128 : Shape := ⟨4, ![16, 4, 128, 128]⟩
abbrev S16x2048x1024 : Shape := ⟨3, ![16, 2048, 1024]⟩
abbrev S16x16x576x128 : Shape := ⟨4, ![16, 16, 576, 128]⟩
abbrev S16x2560x1024 : Shape := ⟨3, ![16, 2560, 1024]⟩
abbrev S16x20x576x128 : Shape := ⟨4, ![16, 20, 576, 128]⟩
abbrev S16x8x128 : Shape := ⟨3, ![16, 8, 128]⟩
abbrev S16x4x8x3x1024 : Shape := ⟨5, ![16, 4, 8, 3, 1024]⟩
abbrev S1x256x512 : Shape := ⟨3, ![1, 256, 512]⟩
abbrev S256x128 : Shape := ⟨2, ![256, 128]⟩
abbrev S1x1x128x128 : Shape := ⟨4, ![1, 1, 128, 128]⟩
abbrev S1x2048x256 : Shape := ⟨3, ![1, 2048, 256]⟩
abbrev S1x16x144x128 : Shape := ⟨4, ![1, 16, 144, 128]⟩
abbrev S1x2560x256 : Shape := ⟨3, ![1, 2560, 256]⟩
abbrev S1x20x144x128 : Shape := ⟨4, ![1, 20, 144, 128]⟩
abbrev S1x8x128 : Shape := ⟨3, ![1, 8, 128]⟩
abbrev S1x1x1x3x1024 : Shape := ⟨5, ![1, 1, 1, 3, 1024]⟩
abbrev S1024x256 : Shape := ⟨2, ![1024, 256]⟩
abbrev S128x1024 : Shape := ⟨2, ![128, 1024]⟩
abbrev S2048x1024 : Shape := ⟨2, ![2048, 1024]⟩
abbrev S1x128 : Shape := ⟨2, ![1, 128]⟩
abbrev S256x512 : Shape := ⟨2, ![256, 512]⟩
abbrev S1024x128 : Shape := ⟨2, ![1024, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S8x128 : Shape := ⟨2, ![8, 128]⟩
abbrev S1x1x128 : Shape := ⟨3, ![1, 1, 128]⟩
abbrev S128x128 : Shape := ⟨2, ![128, 128]⟩
abbrev S128x256 : Shape := ⟨2, ![128, 256]⟩
abbrev S512x256 : Shape := ⟨2, ![512, 256]⟩
abbrev S1x128x256 : Shape := ⟨3, ![1, 128, 256]⟩
abbrev S512x128 : Shape := ⟨2, ![512, 128]⟩
abbrev S512 : Shape := ⟨1, ![512]⟩
abbrev S512x1 : Shape := ⟨2, ![512, 1]⟩
abbrev S128x1 : Shape := ⟨2, ![128, 1]⟩
abbrev S1x256 : Shape := ⟨2, ![1, 256]⟩
abbrev S1x1024 : Shape := ⟨2, ![1, 1024]⟩
abbrev S3x1024 : Shape := ⟨2, ![3, 1024]⟩
abbrev S1024 : Shape := ⟨1, ![1024]⟩
abbrev S32x1 : Shape := ⟨2, ![32, 1]⟩
abbrev S32x128 : Shape := ⟨2, ![32, 128]⟩
abbrev S32x256 : Shape := ⟨2, ![32, 256]⟩
abbrev S96x256 : Shape := ⟨2, ![96, 256]⟩
abbrev S1x1x144x128 : Shape := ⟨4, ![1, 1, 144, 128]⟩
abbrev S144x128 : Shape := ⟨2, ![144, 128]⟩
abbrev S144x640 : Shape := ⟨2, ![144, 640]⟩
abbrev S128x512 : Shape := ⟨2, ![128, 512]⟩
abbrev S640x512 : Shape := ⟨2, ![640, 512]⟩
abbrev S144x512 : Shape := ⟨2, ![144, 512]⟩
abbrev S1x512 : Shape := ⟨2, ![1, 512]⟩
abbrev S256x256 : Shape := ⟨2, ![256, 256]⟩
abbrev S1x256x256 : Shape := ⟨3, ![1, 256, 256]⟩
abbrev S1024x1 : Shape := ⟨2, ![1024, 1]⟩
abbrev S144x256 : Shape := ⟨2, ![144, 256]⟩
abbrev S256x1024 : Shape := ⟨2, ![256, 1024]⟩
abbrev S144x1024 : Shape := ⟨2, ![144, 1024]⟩
abbrev S512x1024 : Shape := ⟨2, ![512, 1024]⟩
abbrev S144x768 : Shape := ⟨2, ![144, 768]⟩
abbrev S768x1024 : Shape := ⟨2, ![768, 1024]⟩
abbrev S1024x1024 : Shape := ⟨2, ![1024, 1024]⟩
abbrev S144x1280 : Shape := ⟨2, ![144, 1280]⟩
abbrev S1280x1024 : Shape := ⟨2, ![1280, 1024]⟩
abbrev S144x1536 : Shape := ⟨2, ![144, 1536]⟩
abbrev S1536x1024 : Shape := ⟨2, ![1536, 1024]⟩
abbrev S144x1792 : Shape := ⟨2, ![144, 1792]⟩
abbrev S1792x1024 : Shape := ⟨2, ![1792, 1024]⟩
abbrev S144x2048 : Shape := ⟨2, ![144, 2048]⟩
abbrev S1x256x128 : Shape := ⟨3, ![1, 256, 128]⟩

abbrev nBuf : Space → Nat
  | .hbm => 13
  | .vmem => 30
  | .smem => 0
  | _ => 0

abbrev bufTy : (tb : Table) → Fin (tcTables nBuf tb) → BufTy
  | .hbm, ⟨0, _⟩ => ⟨S16x2048x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S16x4x128x128, .bf16⟩
  | .hbm, ⟨5, _⟩ => ⟨S16x4x128x128, .bf16⟩
  | .hbm, ⟨6, _⟩ => ⟨S16x2048x1024, .bf16⟩
  | .hbm, ⟨7, _⟩ => ⟨S16x16x576x128, .bf16⟩
  | .hbm, ⟨8, _⟩ => ⟨S16x2560x1024, .bf16⟩
  | .hbm, ⟨9, _⟩ => ⟨S16x20x576x128, .bf16⟩
  | .hbm, ⟨10, _⟩ => ⟨S16x8x128, .f32⟩
  | .hbm, ⟨11, _⟩ => ⟨S16x4x8x3x1024, .f32⟩
  | .hbm, ⟨12, _⟩ => ⟨S16x2048x2048, .bf16⟩
  | .local _ .vmem, ⟨0, _⟩ => ⟨S1x256x512, .f32⟩
  | .local _ .vmem, ⟨1, _⟩ => ⟨S1x256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1x128x128, .bf16⟩
  | .local _ .vmem, ⟨9, _⟩ => ⟨S1x1x128x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x16x144x128, .bf16⟩
  | .local _ .vmem, ⟨15, _⟩ => ⟨S1x16x144x128, .bf16⟩
  | .local _ .vmem, ⟨16, _⟩ => ⟨S1x2560x256, .bf16⟩
  | .local _ .vmem, ⟨17, _⟩ => ⟨S1x2560x256, .bf16⟩
  | .local _ .vmem, ⟨18, _⟩ => ⟨S1x20x144x128, .bf16⟩
  | .local _ .vmem, ⟨19, _⟩ => ⟨S1x20x144x128, .bf16⟩
  | .local _ .vmem, ⟨20, _⟩ => ⟨S1x8x128, .f32⟩
  | .local _ .vmem, ⟨21, _⟩ => ⟨S1x8x128, .f32⟩
  | .local _ .vmem, ⟨22, _⟩ => ⟨S1x1x1x3x1024, .f32⟩
  | .local _ .vmem, ⟨23, _⟩ => ⟨S1x1x1x3x1024, .f32⟩
  | .local _ .vmem, ⟨24, _⟩ => ⟨S1x256x512, .bf16⟩
  | .local _ .vmem, ⟨25, _⟩ => ⟨S1x256x512, .bf16⟩
  | .local _ .vmem, ⟨26, _⟩ => ⟨S1024x256, .bf16⟩
  | .local _ .vmem, ⟨27, _⟩ => ⟨S1024x256, .bf16⟩
  | .local _ .vmem, ⟨28, _⟩ => ⟨S128x1024, .f32⟩
  | .local _ .vmem, ⟨29, _⟩ => ⟨S2048x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c0_i32_459 : BitVec 32 := 0#32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let c0_i32_475 : BitVec 32 := 0#32
  let v1176 : BitVec 32 := Scalar.addi v1170 c0_i32_475
  let c128_i32_476 : BitVec 32 := 128#32
  let v1177 : BitVec 32 := Scalar.muli v1176 c128_i32_476
  v1177
def k0_off1 (i : grid0.Coords) (c0_i32_459 : BitVec 32) (c0_i32_475 : BitVec 32) : Fin 3 → Nat :=
  let c0_477 : Index := 0#32
  let arg2 : BitVec 32 := BitVec.ofNat 32 (i 2).val
  let c256_i32 : BitVec 32 := 256#32
  let v0 : BitVec 32 := Scalar.muli arg2 c256_i32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let v1176 : BitVec 32 := Scalar.addi v1170 c0_i32_475
  let c128_i32_476 : BitVec 32 := 128#32
  let v1177 : BitVec 32 := Scalar.muli v1176 c128_i32_476
  let v1178 : BitVec 32 := v1177
  let v1179 : Index := Scalar.indexCast v1178
  let c0_478 : Index := 0#32
  ![0, v1179.toNat, 0]
def k0_mult2 (i : grid0.Coords) : BitVec 32 :=
  let arg2 : BitVec 32 := BitVec.ofNat 32 (i 2).val
  let c256_i32 : BitVec 32 := 256#32
  let v0 : BitVec 32 := Scalar.muli arg2 c256_i32
  let c0_i32_459 : BitVec 32 := 0#32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let c1_i32_488 : BitVec 32 := 1#32
  let v1190 : BitVec 32 := Scalar.addi v1170 c1_i32_488
  let c128_i32_489 : BitVec 32 := 128#32
  let v1191 : BitVec 32 := Scalar.muli v1190 c128_i32_489
  v1191
def k0_mult3 (i : grid0.Coords) : BitVec 32 :=
  let arg2 : BitVec 32 := BitVec.ofNat 32 (i 2).val
  let c256_i32 : BitVec 32 := 256#32
  let v0 : BitVec 32 := Scalar.muli arg2 c256_i32
  let c0_i32_459 : BitVec 32 := 0#32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let c2_i32_501 : BitVec 32 := 2#32
  let v1203 : BitVec 32 := Scalar.addi v1170 c2_i32_501
  let c128_i32_502 : BitVec 32 := 128#32
  let v1204 : BitVec 32 := Scalar.muli v1203 c128_i32_502
  v1204
def k0_mult4 (i : grid0.Coords) : BitVec 32 :=
  let arg2 : BitVec 32 := BitVec.ofNat 32 (i 2).val
  let c256_i32 : BitVec 32 := 256#32
  let v0 : BitVec 32 := Scalar.muli arg2 c256_i32
  let c0_i32_459 : BitVec 32 := 0#32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let c3_i32_514 : BitVec 32 := 3#32
  let v1216 : BitVec 32 := Scalar.addi v1170 c3_i32_514
  let c128_i32_515 : BitVec 32 := 128#32
  let v1217 : BitVec 32 := Scalar.muli v1216 c128_i32_515
  v1217
def k0_mult5 (i : grid0.Coords) : BitVec 32 :=
  let arg2 : BitVec 32 := BitVec.ofNat 32 (i 2).val
  let c256_i32 : BitVec 32 := 256#32
  let v0 : BitVec 32 := Scalar.muli arg2 c256_i32
  let c0_i32_459 : BitVec 32 := 0#32
  let v1153 : BitVec 32 := Scalar.addi v0 c0_i32_459
  let c0_i32_461 : BitVec 32 := 0#32
  let v1155 : BitVec 1 := Scalar.cmpi .sgt v1153 c0_i32_461
  let v1156 : BitVec 32 := Scalar.extui v1155
  let c0_i32_462 : BitVec 32 := 0#32
  let v1157 : BitVec 1 := Scalar.cmpi .slt v1153 c0_i32_462
  let v1158 : BitVec 32 := Scalar.extui v1157
  let v1159 : BitVec 32 := Scalar.subi v1156 v1158
  let c128_i32_460 : BitVec 32 := 128#32
  let c0_i32_463 : BitVec 32 := 0#32
  let v1160 : BitVec 1 := Scalar.cmpi .sgt c128_i32_460 c0_i32_463
  let v1161 : BitVec 32 := Scalar.extui v1160
  let c0_i32_464 : BitVec 32 := 0#32
  let v1162 : BitVec 1 := Scalar.cmpi .slt c128_i32_460 c0_i32_464
  let v1163 : BitVec 32 := Scalar.extui v1162
  let v1164 : BitVec 32 := Scalar.subi v1161 v1163
  let v1165 : BitVec 1 := Scalar.cmpi .ne v1159 v1164
  let v1166 : BitVec 32 := Scalar.remsi v1153 c128_i32_460
  let c0_i32_465 : BitVec 32 := 0#32
  let v1167 : BitVec 1 := Scalar.cmpi .ne v1166 c0_i32_465
  let v1168 : BitVec 1 := Scalar.andi v1165 v1167
  let v1154 : BitVec 32 := Scalar.divsi v1153 c128_i32_460
  let c1_i32_466 : BitVec 32 := 1#32
  let v1169 : BitVec 32 := Scalar.subi v1154 c1_i32_466
  let v1170 : BitVec 32 := Scalar.select v1168 v1169 v1154
  let c4_i32_527 : BitVec 32 := 4#32
  let v1229 : BitVec 32 := Scalar.addi v1170 c4_i32_527
  let c128_i32_528 : BitVec 32 := 128#32
  let v1230 : BitVec 32 := Scalar.muli v1229 c128_i32_528
  v1230
def k0_mult6 (i : grid0.Coords) : BitVec 32 :=
  let arg2 : BitVec 32 := BitVec.ofNat 32 (i 2).val
  let c256_i32 : BitVec 32 := 256#32
  let v0 : BitVec 32 := Scalar.muli arg2 c256_i32
  let c128_i32_556 : BitVec 32 := 128#32
  let v1305 : BitVec 32 := Scalar.addi v0 c128_i32_556
  let c0_i32_558 : BitVec 32 := 0#32
  let v1307 : BitVec 1 := Scalar.cmpi .sgt v1305 c0_i32_558
  let v1308 : BitVec 32 := Scalar.extui v1307
  let c0_i32_559 : BitVec 32 := 0#32
  let v1309 : BitVec 1 := Scalar.cmpi .slt v1305 c0_i32_559
  let v1310 : BitVec 32 := Scalar.extui v1309
  let v1311 : BitVec 32 := Scalar.subi v1308 v1310
  let c128_i32_557 : BitVec 32 := 128#32
  let c0_i32_560 : BitVec 32 := 0#32
  let v1312 : BitVec 1 := Scalar.cmpi .sgt c128_i32_557 c0_i32_560
  let v1313 : BitVec 32 := Scalar.extui v1312
  let c0_i32_561 : BitVec 32 := 0#32
  let v1314 : BitVec 1 := Scalar.cmpi .slt c128_i32_557 c0_i32_561
  let v1315 : BitVec 32 := Scalar.extui v1314
  let v1316 : BitVec 32 := Scalar.subi v1313 v1315
  let v1317 : BitVec 1 := Scalar.cmpi .ne v1311 v1316
  let v1318 : BitVec 32 := Scalar.remsi v1305 c128_i32_557
  let c0_i32_562 : BitVec 32 := 0#32
  let v1319 : BitVec 1 := Scalar.cmpi .ne v1318 c0_i32_562
  let v1320 : BitVec 1 := Scalar.andi v1317 v1319
  let v1306 : BitVec 32 := Scalar.divsi v1305 c128_i32_557
  let c1_i32_563 : BitVec 32 := 1#32
  let v1321 : BitVec 32 := Scalar.subi v1306 c1_i32_563
  let v1322 : BitVec 32 := Scalar.select v1320 v1321 v1306
  let c0_i32_572 : BitVec 32 := 0#32
  let v1328 : BitVec 32 := Scalar.addi v1322 c0_i32_572
  let c128_i32_573 : BitVec 32 := 128#32
  let v1329 : BitVec 32 := Scalar.muli v1328 c128_i32_573
  v1329
def k0_mult7 (i : grid0.Coords) : BitVec 32 :=
  let arg2 : BitVec 32 := BitVec.ofNat 32 (i 2).val
  let c256_i32 : BitVec 32 := 256#32
  let v0 : BitVec 32 := Scalar.muli arg2 c256_i32
  let c128_i32_556 : BitVec 32 := 128#32
  let v1305 : BitVec 32 := Scalar.addi v0 c128_i32_556
  let c0_i32_558 : BitVec 32 := 0#32
  let v1307 : BitVec 1 := Scalar.cmpi .sgt v1305 c0_i32_558
  let v1308 : BitVec 32 := Scalar.extui v1307
  let c0_i32_559 : BitVec 32 := 0#32
  let v1309 : BitVec 1 := Scalar.cmpi .slt v1305 c0_i32_559
  let v1310 : BitVec 32 := Scalar.extui v1309
  let v1311 : BitVec 32 := Scalar.subi v1308 v1310
  let c128_i32_557 : BitVec 32 := 128#32
  let c0_i32_560 : BitVec 32 := 0#32
  let v1312 : BitVec 1 := Scalar.cmpi .sgt c128_i32_557 c0_i32_560
  let v1313 : BitVec 32 := Scalar.extui v1312
  let c0_i32_561 : BitVec 32 := 0#32
  let v1314 : BitVec 1 := Scalar.cmpi .slt c128_i32_557 c0_i32_561
  let v1315 : BitVec 32 := Scalar.extui v1314
  let v1316 : BitVec 32 := Scalar.subi v1313 v1315
  let v1317 : BitVec 1 := Scalar.cmpi .ne v1311 v1316
  let v1318 : BitVec 32 := Scalar.remsi v1305 c128_i32_557
  let c0_i32_562 : BitVec 32 := 0#32
  let v1319 : BitVec 1 := Scalar.cmpi .ne v1318 c0_i32_562
  let v1320 : BitVec 1 := Scalar.andi v1317 v1319
  let v1306 : BitVec 32 := Scalar.divsi v1305 c128_i32_557
  let c1_i32_563 : BitVec 32 := 1#32
  let v1321 : BitVec 32 := Scalar.subi v1306 c1_i32_563
  let v1322 : BitVec 32 := Scalar.select v1320 v1321 v1306
  let c1_i32_585 : BitVec 32 := 1#32
  let v1342 : BitVec 32 := Scalar.addi v1322 c1_i32_585
  let c128_i32_586 : BitVec 32 := 128#32
  let v1343 : BitVec 32 := Scalar.muli v1342 c128_i32_586
  v1343
def k0_mult8 (i : grid0.Coords) : BitVec 32 :=
  let arg2 : BitVec 32 := BitVec.ofNat 32 (i 2).val
  let c256_i32 : BitVec 32 := 256#32
  let v0 : BitVec 32 := Scalar.muli arg2 c256_i32
  let c128_i32_556 : BitVec 32 := 128#32
  let v1305 : BitVec 32 := Scalar.addi v0 c128_i32_556
  let c0_i32_558 : BitVec 32 := 0#32
  let v1307 : BitVec 1 := Scalar.cmpi .sgt v1305 c0_i32_558
  let v1308 : BitVec 32 := Scalar.extui v1307
  let c0_i32_559 : BitVec 32 := 0#32
  let v1309 : BitVec 1 := Scalar.cmpi .slt v1305 c0_i32_559
  let v1310 : BitVec 32 := Scalar.extui v1309
  let v1311 : BitVec 32 := Scalar.subi v1308 v1310
  let c128_i32_557 : BitVec 32 := 128#32
  let c0_i32_560 : BitVec 32 := 0#32
  let v1312 : BitVec 1 := Scalar.cmpi .sgt c128_i32_557 c0_i32_560
  let v1313 : BitVec 32 := Scalar.extui v1312
  let c0_i32_561 : BitVec 32 := 0#32
  let v1314 : BitVec 1 := Scalar.cmpi .slt c128_i32_557 c0_i32_561
  let v1315 : BitVec 32 := Scalar.extui v1314
  let v1316 : BitVec 32 := Scalar.subi v1313 v1315
  let v1317 : BitVec 1 := Scalar.cmpi .ne v1311 v1316
  let v1318 : BitVec 32 := Scalar.remsi v1305 c128_i32_557
  let c0_i32_562 : BitVec 32 := 0#32
  let v1319 : BitVec 1 := Scalar.cmpi .ne v1318 c0_i32_562
  let v1320 : BitVec 1 := Scalar.andi v1317 v1319
  let v1306 : BitVec 32 := Scalar.divsi v1305 c128_i32_557
  let c1_i32_563 : BitVec 32 := 1#32
  let v1321 : BitVec 32 := Scalar.subi v1306 c1_i32_563
  let v1322 : BitVec 32 := Scalar.select v1320 v1321 v1306
  let c2_i32_598 : BitVec 32 := 2#32
  let v1355 : BitVec 32 := Scalar.addi v1322 c2_i32_598
  let c128_i32_599 : BitVec 32 := 128#32
  let v1356 : BitVec 32 := Scalar.muli v1355 c128_i32_599
  v1356
def k0_mult9 (i : grid0.Coords) : BitVec 32 :=
  let arg2 : BitVec 32 := BitVec.ofNat 32 (i 2).val
  let c256_i32 : BitVec 32 := 256#32
  let v0 : BitVec 32 := Scalar.muli arg2 c256_i32
  let c128_i32_556 : BitVec 32 := 128#32
  let v1305 : BitVec 32 := Scalar.addi v0 c128_i32_556
  let c0_i32_558 : BitVec 32 := 0#32
  let v1307 : BitVec 1 := Scalar.cmpi .sgt v1305 c0_i32_558
  let v1308 : BitVec 32 := Scalar.extui v1307
  let c0_i32_559 : BitVec 32 := 0#32
  let v1309 : BitVec 1 := Scalar.cmpi .slt v1305 c0_i32_559
  let v1310 : BitVec 32 := Scalar.extui v1309
  let v1311 : BitVec 32 := Scalar.subi v1308 v1310
  let c128_i32_557 : BitVec 32 := 128#32
  let c0_i32_560 : BitVec 32 := 0#32
  let v1312 : BitVec 1 := Scalar.cmpi .sgt c128_i32_557 c0_i32_560
  let v1313 : BitVec 32 := Scalar.extui v1312
  let c0_i32_561 : BitVec 32 := 0#32
  let v1314 : BitVec 1 := Scalar.cmpi .slt c128_i32_557 c0_i32_561
  let v1315 : BitVec 32 := Scalar.extui v1314
  let v1316 : BitVec 32 := Scalar.subi v1313 v1315
  let v1317 : BitVec 1 := Scalar.cmpi .ne v1311 v1316
  let v1318 : BitVec 32 := Scalar.remsi v1305 c128_i32_557
  let c0_i32_562 : BitVec 32 := 0#32
  let v1319 : BitVec 1 := Scalar.cmpi .ne v1318 c0_i32_562
  let v1320 : BitVec 1 := Scalar.andi v1317 v1319
  let v1306 : BitVec 32 := Scalar.divsi v1305 c128_i32_557
  let c1_i32_563 : BitVec 32 := 1#32
  let v1321 : BitVec 32 := Scalar.subi v1306 c1_i32_563
  let v1322 : BitVec 32 := Scalar.select v1320 v1321 v1306
  let c3_i32_611 : BitVec 32 := 3#32
  let v1368 : BitVec 32 := Scalar.addi v1322 c3_i32_611
  let c128_i32_612 : BitVec 32 := 128#32
  let v1369 : BitVec 32 := Scalar.muli v1368 c128_i32_612
  v1369
def k0_mult10 (i : grid0.Coords) : BitVec 32 :=
  let arg2 : BitVec 32 := BitVec.ofNat 32 (i 2).val
  let c256_i32 : BitVec 32 := 256#32
  let v0 : BitVec 32 := Scalar.muli arg2 c256_i32
  let c128_i32_556 : BitVec 32 := 128#32
  let v1305 : BitVec 32 := Scalar.addi v0 c128_i32_556
  let c0_i32_558 : BitVec 32 := 0#32
  let v1307 : BitVec 1 := Scalar.cmpi .sgt v1305 c0_i32_558
  let v1308 : BitVec 32 := Scalar.extui v1307
  let c0_i32_559 : BitVec 32 := 0#32
  let v1309 : BitVec 1 := Scalar.cmpi .slt v1305 c0_i32_559
  let v1310 : BitVec 32 := Scalar.extui v1309
  let v1311 : BitVec 32 := Scalar.subi v1308 v1310
  let c128_i32_557 : BitVec 32 := 128#32
  let c0_i32_560 : BitVec 32 := 0#32
  let v1312 : BitVec 1 := Scalar.cmpi .sgt c128_i32_557 c0_i32_560
  let v1313 : BitVec 32 := Scalar.extui v1312
  let c0_i32_561 : BitVec 32 := 0#32
  let v1314 : BitVec 1 := Scalar.cmpi .slt c128_i32_557 c0_i32_561
  let v1315 : BitVec 32 := Scalar.extui v1314
  let v1316 : BitVec 32 := Scalar.subi v1313 v1315
  let v1317 : BitVec 1 := Scalar.cmpi .ne v1311 v1316
  let v1318 : BitVec 32 := Scalar.remsi v1305 c128_i32_557
  let c0_i32_562 : BitVec 32 := 0#32
  let v1319 : BitVec 1 := Scalar.cmpi .ne v1318 c0_i32_562
  let v1320 : BitVec 1 := Scalar.andi v1317 v1319
  let v1306 : BitVec 32 := Scalar.divsi v1305 c128_i32_557
  let c1_i32_563 : BitVec 32 := 1#32
  let v1321 : BitVec 32 := Scalar.subi v1306 c1_i32_563
  let v1322 : BitVec 32 := Scalar.select v1320 v1321 v1306
  let c4_i32_624 : BitVec 32 := 4#32
  let v1381 : BitVec 32 := Scalar.addi v1322 c4_i32_624
  let c128_i32_625 : BitVec 32 := 128#32
  let v1382 : BitVec 32 := Scalar.muli v1381 c128_i32_625
  v1382
def k0_off2 (i : grid0.Coords) (c0_i32_231 : BitVec 32) (c0_i32_238 : BitVec 32) : Fin 4 → Nat :=
  let c0_239 : Index := 0#32
  let arg2 : BitVec 32 := BitVec.ofNat 32 (i 2).val
  let c256_i32 : BitVec 32 := 256#32
  let v0 : BitVec 32 := Scalar.muli arg2 c256_i32
  let v755 : BitVec 32 := Scalar.addi v0 c0_i32_231
  let c0_i32_232 : BitVec 32 := 0#32
  let v757 : BitVec 1 := Scalar.cmpi .sgt v755 c0_i32_232
  let v758 : BitVec 32 := Scalar.extui v757
  let c0_i32_233 : BitVec 32 := 0#32
  let v759 : BitVec 1 := Scalar.cmpi .slt v755 c0_i32_233
  let v760 : BitVec 32 := Scalar.extui v759
  let v761 : BitVec 32 := Scalar.subi v758 v760
  let c128_i32 : BitVec 32 := 128#32
  let c0_i32_234 : BitVec 32 := 0#32
  let v762 : BitVec 1 := Scalar.cmpi .sgt c128_i32 c0_i32_234
  let v763 : BitVec 32 := Scalar.extui v762
  let c0_i32_235 : BitVec 32 := 0#32
  let v764 : BitVec 1 := Scalar.cmpi .slt c128_i32 c0_i32_235
  let v765 : BitVec 32 := Scalar.extui v764
  let v766 : BitVec 32 := Scalar.subi v763 v765
  let v767 : BitVec 1 := Scalar.cmpi .ne v761 v766
  let v768 : BitVec 32 := Scalar.remsi v755 c128_i32
  let c0_i32_236 : BitVec 32 := 0#32
  let v769 : BitVec 1 := Scalar.cmpi .ne v768 c0_i32_236
  let v770 : BitVec 1 := Scalar.andi v767 v769
  let v756 : BitVec 32 := Scalar.divsi v755 c128_i32
  let c1_i32_237 : BitVec 32 := 1#32
  let v771 : BitVec 32 := Scalar.subi v756 c1_i32_237
  let v772 : BitVec 32 := Scalar.select v770 v771 v756
  let v773 : BitVec 32 := Scalar.addi v772 c0_i32_238
  let v774 : Index := Scalar.indexCast v773
  let c0_240 : Index := 0#32
  let c0_241 : Index := 0#32
  ![0, v774.toNat, 0, 0]
def k0_mult11 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let c0_i32_274 : BitVec 32 := 0#32
  let v817 : BitVec 32 := Scalar.addi v811 c0_i32_274
  let c128_i32_275 : BitVec 32 := 128#32
  let v818 : BitVec 32 := Scalar.muli v817 c128_i32_275
  v818
def k0_off3 (i : grid0.Coords) (c0_i32_258 : BitVec 32) (c0_i32_274 : BitVec 32) : Fin 3 → Nat :=
  let c0_276 : Index := 0#32
  let arg2 : BitVec 32 := BitVec.ofNat 32 (i 2).val
  let c256_i32 : BitVec 32 := 256#32
  let v0 : BitVec 32 := Scalar.muli arg2 c256_i32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let v817 : BitVec 32 := Scalar.addi v811 c0_i32_274
  let c128_i32_275 : BitVec 32 := 128#32
  let v818 : BitVec 32 := Scalar.muli v817 c128_i32_275
  let v819 : BitVec 32 := v818
  let v820 : Index := Scalar.indexCast v819
  let c0_277 : Index := 0#32
  ![0, v820.toNat, 0]
def k0_mult12 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let c1_i32_281 : BitVec 32 := 1#32
  let v831 : BitVec 32 := Scalar.addi v811 c1_i32_281
  let c128_i32_282 : BitVec 32 := 128#32
  let v832 : BitVec 32 := Scalar.muli v831 c128_i32_282
  v832
def k0_mult13 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let c2_i32_288 : BitVec 32 := 2#32
  let v843 : BitVec 32 := Scalar.addi v811 c2_i32_288
  let c128_i32_289 : BitVec 32 := 128#32
  let v844 : BitVec 32 := Scalar.muli v843 c128_i32_289
  v844
def k0_mult14 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let c3_i32_295 : BitVec 32 := 3#32
  let v855 : BitVec 32 := Scalar.addi v811 c3_i32_295
  let c128_i32_296 : BitVec 32 := 128#32
  let v856 : BitVec 32 := Scalar.muli v855 c128_i32_296
  v856
def k0_mult15 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v794 : BitVec 32 := Scalar.addi v0 c0_i32_258
  let c0_i32_260 : BitVec 32 := 0#32
  let v796 : BitVec 1 := Scalar.cmpi .sgt v794 c0_i32_260
  let v797 : BitVec 32 := Scalar.extui v796
  let c0_i32_261 : BitVec 32 := 0#32
  let v798 : BitVec 1 := Scalar.cmpi .slt v794 c0_i32_261
  let v799 : BitVec 32 := Scalar.extui v798
  let v800 : BitVec 32 := Scalar.subi v797 v799
  let c128_i32_259 : BitVec 32 := 128#32
  let c0_i32_262 : BitVec 32 := 0#32
  let v801 : BitVec 1 := Scalar.cmpi .sgt c128_i32_259 c0_i32_262
  let v802 : BitVec 32 := Scalar.extui v801
  let c0_i32_263 : BitVec 32 := 0#32
  let v803 : BitVec 1 := Scalar.cmpi .slt c128_i32_259 c0_i32_263
  let v804 : BitVec 32 := Scalar.extui v803
  let v805 : BitVec 32 := Scalar.subi v802 v804
  let v806 : BitVec 1 := Scalar.cmpi .ne v800 v805
  let v807 : BitVec 32 := Scalar.remsi v794 c128_i32_259
  let c0_i32_264 : BitVec 32 := 0#32
  let v808 : BitVec 1 := Scalar.cmpi .ne v807 c0_i32_264
  let v809 : BitVec 1 := Scalar.andi v806 v808
  let v795 : BitVec 32 := Scalar.divsi v794 c128_i32_259
  let c1_i32_265 : BitVec 32 := 1#32
  let v810 : BitVec 32 := Scalar.subi v795 c1_i32_265
  let v811 : BitVec 32 := Scalar.select v809 v810 v795
  let c4_i32_301 : BitVec 32 := 4#32
  let v867 : BitVec 32 := Scalar.addi v811 c4_i32_301
  let c128_i32_302 : BitVec 32 := 128#32
  let v868 : BitVec 32 := Scalar.muli v867 c128_i32_302
  v868
def k0_mult16 (i : grid0.Coords) : BitVec 32 :=
  let arg2 : BitVec 32 := BitVec.ofNat 32 (i 2).val
  let c256_i32 : BitVec 32 := 256#32
  let v0 : BitVec 32 := Scalar.muli arg2 c256_i32
  let c128_i32_356 : BitVec 32 := 128#32
  let v964 : BitVec 32 := Scalar.addi v0 c128_i32_356
  let c0_i32_358 : BitVec 32 := 0#32
  let v966 : BitVec 1 := Scalar.cmpi .sgt v964 c0_i32_358
  let v967 : BitVec 32 := Scalar.extui v966
  let c0_i32_359 : BitVec 32 := 0#32
  let v968 : BitVec 1 := Scalar.cmpi .slt v964 c0_i32_359
  let v969 : BitVec 32 := Scalar.extui v968
  let v970 : BitVec 32 := Scalar.subi v967 v969
  let c128_i32_357 : BitVec 32 := 128#32
  let c0_i32_360 : BitVec 32 := 0#32
  let v971 : BitVec 1 := Scalar.cmpi .sgt c128_i32_357 c0_i32_360
  let v972 : BitVec 32 := Scalar.extui v971
  let c0_i32_361 : BitVec 32 := 0#32
  let v973 : BitVec 1 := Scalar.cmpi .slt c128_i32_357 c0_i32_361
  let v974 : BitVec 32 := Scalar.extui v973
  let v975 : BitVec 32 := Scalar.subi v972 v974
  let v976 : BitVec 1 := Scalar.cmpi .ne v970 v975
  let v977 : BitVec 32 := Scalar.remsi v964 c128_i32_357
  let c0_i32_362 : BitVec 32 := 0#32
  let v978 : BitVec 1 := Scalar.cmpi .ne v977 c0_i32_362
  let v979 : BitVec 1 := Scalar.andi v976 v978
  let v965 : BitVec 32 := Scalar.divsi v964 c128_i32_357
  let c1_i32_363 : BitVec 32 := 1#32
  let v980 : BitVec 32 := Scalar.subi v965 c1_i32_363
  let v981 : BitVec 32 := Scalar.select v979 v980 v965
  let c0_i32_370 : BitVec 32 := 0#32
  let v987 : BitVec 32 := Scalar.addi v981 c0_i32_370
  let c128_i32_371 : BitVec 32 := 128#32
  let v988 : BitVec 32 := Scalar.muli v987 c128_i32_371
  v988
def k0_mult17 (i : grid0.Coords) : BitVec 32 :=
  let arg2 : BitVec 32 := BitVec.ofNat 32 (i 2).val
  let c256_i32 : BitVec 32 := 256#32
  let v0 : BitVec 32 := Scalar.muli arg2 c256_i32
  let c128_i32_356 : BitVec 32 := 128#32
  let v964 : BitVec 32 := Scalar.addi v0 c128_i32_356
  let c0_i32_358 : BitVec 32 := 0#32
  let v966 : BitVec 1 := Scalar.cmpi .sgt v964 c0_i32_358
  let v967 : BitVec 32 := Scalar.extui v966
  let c0_i32_359 : BitVec 32 := 0#32
  let v968 : BitVec 1 := Scalar.cmpi .slt v964 c0_i32_359
  let v969 : BitVec 32 := Scalar.extui v968
  let v970 : BitVec 32 := Scalar.subi v967 v969
  let c128_i32_357 : BitVec 32 := 128#32
  let c0_i32_360 : BitVec 32 := 0#32
  let v971 : BitVec 1 := Scalar.cmpi .sgt c128_i32_357 c0_i32_360
  let v972 : BitVec 32 := Scalar.extui v971
  let c0_i32_361 : BitVec 32 := 0#32
  let v973 : BitVec 1 := Scalar.cmpi .slt c128_i32_357 c0_i32_361
  let v974 : BitVec 32 := Scalar.extui v973
  let v975 : BitVec 32 := Scalar.subi v972 v974
  let v976 : BitVec 1 := Scalar.cmpi .ne v970 v975
  let v977 : BitVec 32 := Scalar.remsi v964 c128_i32_357
  let c0_i32_362 : BitVec 32 := 0#32
  let v978 : BitVec 1 := Scalar.cmpi .ne v977 c0_i32_362
  let v979 : BitVec 1 := Scalar.andi v976 v978
  let v965 : BitVec 32 := Scalar.divsi v964 c128_i32_357
  let c1_i32_363 : BitVec 32 := 1#32
  let v980 : BitVec 32 := Scalar.subi v965 c1_i32_363
  let v981 : BitVec 32 := Scalar.select v979 v980 v965
  let c1_i32_377 : BitVec 32 := 1#32
  let v1001 : BitVec 32 := Scalar.addi v981 c1_i32_377
  let c128_i32_378 : BitVec 32 := 128#32
  let v1002 : BitVec 32 := Scalar.muli v1001 c128_i32_378
  v1002
def k0_mult18 (i : grid0.Coords) : BitVec 32 :=
  let arg2 : BitVec 32 := BitVec.ofNat 32 (i 2).val
  let c256_i32 : BitVec 32 := 256#32
  let v0 : BitVec 32 := Scalar.muli arg2 c256_i32
  let c128_i32_356 : BitVec 32 := 128#32
  let v964 : BitVec 32 := Scalar.addi v0 c128_i32_356
  let c0_i32_358 : BitVec 32 := 0#32
  let v966 : BitVec 1 := Scalar.cmpi .sgt v964 c0_i32_358
  let v967 : BitVec 32 := Scalar.extui v966
  let c0_i32_359 : BitVec 32 := 0#32
  let v968 : BitVec 1 := Scalar.cmpi .slt v964 c0_i32_359
  let v969 : BitVec 32 := Scalar.extui v968
  let v970 : BitVec 32 := Scalar.subi v967 v969
  let c128_i32_357 : BitVec 32 := 128#32
  let c0_i32_360 : BitVec 32 := 0#32
  let v971 : BitVec 1 := Scalar.cmpi .sgt c128_i32_357 c0_i32_360
  let v972 : BitVec 32 := Scalar.extui v971
  let c0_i32_361 : BitVec 32 := 0#32
  let v973 : BitVec 1 := Scalar.cmpi .slt c128_i32_357 c0_i32_361
  let v974 : BitVec 32 := Scalar.extui v973
  let v975 : BitVec 32 := Scalar.subi v972 v974
  let v976 : BitVec 1 := Scalar.cmpi .ne v970 v975
  let v977 : BitVec 32 := Scalar.remsi v964 c128_i32_357
  let c0_i32_362 : BitVec 32 := 0#32
  let v978 : BitVec 1 := Scalar.cmpi .ne v977 c0_i32_362
  let v979 : BitVec 1 := Scalar.andi v976 v978
  let v965 : BitVec 32 := Scalar.divsi v964 c128_i32_357
  let c1_i32_363 : BitVec 32 := 1#32
  let v980 : BitVec 32 := Scalar.subi v965 c1_i32_363
  let v981 : BitVec 32 := Scalar.select v979 v980 v965
  let c2_i32_384 : BitVec 32 := 2#32
  let v1013 : BitVec 32 := Scalar.addi v981 c2_i32_384
  let c128_i32_385 : BitVec 32 := 128#32
  let v1014 : BitVec 32 := Scalar.muli v1013 c128_i32_385
  v1014
def k0_mult19 (i : grid0.Coords) : BitVec 32 :=
  let arg2 : BitVec 32 := BitVec.ofNat 32 (i 2).val
  let c256_i32 : BitVec 32 := 256#32
  let v0 : BitVec 32 := Scalar.muli arg2 c256_i32
  let c128_i32_356 : BitVec 32 := 128#32
  let v964 : BitVec 32 := Scalar.addi v0 c128_i32_356
  let c0_i32_358 : BitVec 32 := 0#32
  let v966 : BitVec 1 := Scalar.cmpi .sgt v964 c0_i32_358
  let v967 : BitVec 32 := Scalar.extui v966
  let c0_i32_359 : BitVec 32 := 0#32
  let v968 : BitVec 1 := Scalar.cmpi .slt v964 c0_i32_359
  let v969 : BitVec 32 := Scalar.extui v968
  let v970 : BitVec 32 := Scalar.subi v967 v969
  let c128_i32_357 : BitVec 32 := 128#32
  let c0_i32_360 : BitVec 32 := 0#32
  let v971 : BitVec 1 := Scalar.cmpi .sgt c128_i32_357 c0_i32_360
  let v972 : BitVec 32 := Scalar.extui v971
  let c0_i32_361 : BitVec 32 := 0#32
  let v973 : BitVec 1 := Scalar.cmpi .slt c128_i32_357 c0_i32_361
  let v974 : BitVec 32 := Scalar.extui v973
  let v975 : BitVec 32 := Scalar.subi v972 v974
  let v976 : BitVec 1 := Scalar.cmpi .ne v970 v975
  let v977 : BitVec 32 := Scalar.remsi v964 c128_i32_357
  let c0_i32_362 : BitVec 32 := 0#32
  let v978 : BitVec 1 := Scalar.cmpi .ne v977 c0_i32_362
  let v979 : BitVec 1 := Scalar.andi v976 v978
  let v965 : BitVec 32 := Scalar.divsi v964 c128_i32_357
  let c1_i32_363 : BitVec 32 := 1#32
  let v980 : BitVec 32 := Scalar.subi v965 c1_i32_363
  let v981 : BitVec 32 := Scalar.select v979 v980 v965
  let c3_i32_391 : BitVec 32 := 3#32
  let v1025 : BitVec 32 := Scalar.addi v981 c3_i32_391
  let c128_i32_392 : BitVec 32 := 128#32
  let v1026 : BitVec 32 := Scalar.muli v1025 c128_i32_392
  v1026
def k0_mult20 (i : grid0.Coords) : BitVec 32 :=
  let arg2 : BitVec 32 := BitVec.ofNat 32 (i 2).val
  let c256_i32 : BitVec 32 := 256#32
  let v0 : BitVec 32 := Scalar.muli arg2 c256_i32
  let c128_i32_356 : BitVec 32 := 128#32
  let v964 : BitVec 32 := Scalar.addi v0 c128_i32_356
  let c0_i32_358 : BitVec 32 := 0#32
  let v966 : BitVec 1 := Scalar.cmpi .sgt v964 c0_i32_358
  let v967 : BitVec 32 := Scalar.extui v966
  let c0_i32_359 : BitVec 32 := 0#32
  let v968 : BitVec 1 := Scalar.cmpi .slt v964 c0_i32_359
  let v969 : BitVec 32 := Scalar.extui v968
  let v970 : BitVec 32 := Scalar.subi v967 v969
  let c128_i32_357 : BitVec 32 := 128#32
  let c0_i32_360 : BitVec 32 := 0#32
  let v971 : BitVec 1 := Scalar.cmpi .sgt c128_i32_357 c0_i32_360
  let v972 : BitVec 32 := Scalar.extui v971
  let c0_i32_361 : BitVec 32 := 0#32
  let v973 : BitVec 1 := Scalar.cmpi .slt c128_i32_357 c0_i32_361
  let v974 : BitVec 32 := Scalar.extui v973
  let v975 : BitVec 32 := Scalar.subi v972 v974
  let v976 : BitVec 1 := Scalar.cmpi .ne v970 v975
  let v977 : BitVec 32 := Scalar.remsi v964 c128_i32_357
  let c0_i32_362 : BitVec 32 := 0#32
  let v978 : BitVec 1 := Scalar.cmpi .ne v977 c0_i32_362
  let v979 : BitVec 1 := Scalar.andi v976 v978
  let v965 : BitVec 32 := Scalar.divsi v964 c128_i32_357
  let c1_i32_363 : BitVec 32 := 1#32
  let v980 : BitVec 32 := Scalar.subi v965 c1_i32_363
  let v981 : BitVec 32 := Scalar.select v979 v980 v965
  let c4_i32_398 : BitVec 32 := 4#32
  let v1037 : BitVec 32 := Scalar.addi v981 c4_i32_398
  let c128_i32_399 : BitVec 32 := 128#32
  let v1038 : BitVec 32 := Scalar.muli v1037 c128_i32_399
  v1038
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x16x144x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2560x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x20x144x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Kernel2.lean ====
abbrev S32768x2048 : Shape := ⟨2, ![32768, 2048]⟩
abbrev S2048x8192 : Shape := ⟨2, ![2048, 8192]⟩
abbrev S32768x8192 : Shape := ⟨2, ![32768, 8192]⟩
abbrev S1024x2048 : Shape := ⟨2, ![1024, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S2048x8192, .bf16⟩
  | .hbm, ⟨3, _⟩ => ⟨S32768x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x8192 : Shape := ⟨2, ![2048, 8192]⟩
abbrev S32768x8192 : Shape := ⟨2, ![32768, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S32768x2048, .f32⟩
  | .hbm, ⟨3, _⟩ => ⟨S32768x8192, .f32⟩
  | .hbm, ⟨4, _⟩ => ⟨S_, .f32⟩
  | .hbm, ⟨5, _⟩ => ⟨S32768x8192, .f32⟩
  | .hbm, ⟨6, _⟩ => ⟨S32768x8192, .f32⟩
  | .hbm, ⟨7, _⟩ => ⟨S32768x8192, .f32⟩
  | .hbm, ⟨8, _⟩ => ⟨S32768x8192, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S8192x2048, .bf16⟩
  | .hbm, ⟨5, _⟩ => ⟨S1x2048, .f32⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S32768x8192, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x2048, .f32⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | .hbm, ⟨44, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel5.lean ====
abbrev S32768x2048 : Shape := ⟨2, ![32768, 2048]⟩
abbrev S2048x4096 : Shape := ⟨2, ![2048, 4096]⟩
abbrev S4096 : Shape := ⟨1, ![4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S1x4096, .f32⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S32768x2048 : Shape := ⟨2, ![32768, 2048]⟩
abbrev S2048x4096 : Shape := ⟨2, ![2048, 4096]⟩
abbrev S4096 : Shape := ⟨1, ![4096]⟩
abbrev S32768x4096 : Shape := ⟨2, ![32768, 4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .f32⟩
  | .hbm, ⟨2, _⟩ => ⟨S4096, .f32⟩
  | .hbm, ⟨3, _⟩ => ⟨S32768x2048, .f32⟩
  | .hbm, ⟨4, _⟩ => ⟨S32768x4096, .f32⟩
  | .hbm, ⟨5, _⟩ => ⟨S1x4096, .f32⟩
  | .hbm, ⟨6, _⟩ => ⟨S32768x4096, .f32⟩
  | .hbm, ⟨7, _⟩ => ⟨S32768x4096, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel7.lean ====
abbrev S32768x2048 : Shape := ⟨2, ![32768, 2048]⟩
abbrev S2048x2096 : Shape := ⟨2, ![2048, 2096]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x2096, .f32⟩
  | .hbm, ⟨2, _⟩ => ⟨S2048x2048, .f32⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x2048 : Shape := ⟨2, ![32768, 2048]⟩
abbrev S2048x2096 : Shape := ⟨2, ![2048, 2096]⟩
abbrev S32768x2096 : Shape := ⟨2, ![32768, 2096]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2096, .f32⟩
  | .hbm, ⟨2, _⟩ => ⟨S32768x2048, .f32⟩
  | .hbm, ⟨3, _⟩ => ⟨S32768x2096, .f32⟩
  | .hbm, ⟨4, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S32768x2048 : Shape := ⟨2, ![32768, 2048]⟩
abbrev S2048x2096 : Shape := ⟨2, ![2048, 2096]⟩
abbrev S2048x48 : Shape := ⟨2, ![2048, 48]⟩
abbrev S_ : Shape := ⟨0, ![]⟩
abbrev S2048x128 : Shape := ⟨2, ![2048, 128]⟩
abbrev S32768x128 : Shape := ⟨2, ![32768, 128]⟩
abbrev S1024x2048 : Shape := ⟨2, ![1024, 2048]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x2096, .f32⟩
  | .hbm, ⟨2, _⟩ => ⟨S2048x48, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32768x2048 : Shape := ⟨2, ![32768, 2048]⟩
abbrev S2048x2096 : Shape := ⟨2, ![2048, 2096]⟩
abbrev S32768x2096 : Shape := ⟨2, ![32768, 2096]⟩
abbrev S32768x48 : Shape := ⟨2, ![32768, 48]⟩
abbrev S_ : Shape := ⟨0, ![]⟩
abbrev S32768x128 : Shape := ⟨2, ![32768, 128]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2096, .f32⟩
  | .hbm, ⟨2, _⟩ => ⟨S32768x2048, .f32⟩
  | .hbm, ⟨3, _⟩ => ⟨S32768x2096, .f32⟩
  | .hbm, ⟨4, _⟩ => ⟨S32768x48, .f32⟩
  | .hbm, ⟨5, _⟩ => ⟨S_, .i32⟩
  | .hbm, ⟨6, _⟩ => ⟨S_, .f32⟩
  | .hbm, ⟨7, _⟩ => ⟨S32768x128, .f32⟩
  | .hbm, ⟨8, _⟩ => ⟨S32768x128, .f32⟩
  | .hbm, ⟨9, _⟩ => ⟨S32768x128, .f32⟩
  | .hbm, ⟨10, _⟩ => ⟨S_, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel10.lean ====
abbrev S32768x2048 : Shape := ⟨2, ![32768, 2048]⟩
abbrev S2048x3072 : Shape := ⟨2, ![2048, 3072]⟩
abbrev S2048x512 : Shape := ⟨2, ![2048, 512]⟩
abbrev S2048x2048 : Shape := ⟨2, ![2048, 2048]⟩
abbrev S1024x2048 : Shape := ⟨2, ![1024, 2048]⟩

abbrev nBuf : Space → Nat
  | .hbm => 9
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x2048, .f32⟩
  | .hbm, ⟨7, _⟩ => ⟨S2048x2048, .bf16⟩
  | .hbm, ⟨8, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S32768x2048 : Shape := ⟨2, ![32768, 2048]⟩
abbrev S2048x3072 : Shape := ⟨2, ![2048, 3072]⟩
abbrev S32768x3072 : Shape := ⟨2, ![32768, 3072]⟩
abbrev S32768x512 : Shape := ⟨2, ![32768, 512]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .f32⟩
  | .hbm, ⟨2, _⟩ => ⟨S32768x2048, .f32⟩
  | .hbm, ⟨3, _⟩ => ⟨S32768x3072, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S1x2048, .f32⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x8192, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .bf16⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel12.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S1x2048 : Shape := ⟨2, ![1, 2048]⟩
abbrev S2x2048 : Shape := ⟨2, ![2, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S2x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .hbm, ⟨13, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference12Ideal.lean ====
abbrev S32768x8192 : Shape := ⟨2, ![32768, 8192]⟩
abbrev S8192x2048 : Shape := ⟨2, ![8192, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S32768x8192, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | .hbm, ⟨58, _⟩ => ⟨S32768x2048, .bf16⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Keeps.lean ====
/- The attention kernel's body, walked once: it only loads from and stores to the memrefs it is handed, so it
   runs from "each of them held at some contents" back to the same assertion, whichever of its branches it takes.
   `Keeps I p` says so of a program `p` and an assertion `I`; it is closed under sequencing, branching, loads and
   stores, and that is all the body is made of. -/
module

public import proofs.«01_k».proof.Proof.Gen.KernelIdeal.Frame
public import Idealize.ShloMosaic.Lib.Claim

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The memref `M` of core `c`, held whole at contents not named. -/
def held (c : Dev nD) {s : Shape} {e : EltTy} (M : Memref sig .tc .vmem s e) : sProp 𝕄 :=
  iprop(∃ X, owns (Val := Elt F) (c : Thread nD τ) M fullShare X)

/-- `I` lends out the memref `M`, and takes it back at any contents. -/
def Lends (I : sProp 𝕄) (c : Dev nD) {s : Shape} {e : EltTy} (M : Memref sig .tc .vmem s e) : Prop :=
  I ⊢ iprop(held (F := F) c M ∗ (held (F := F) c M -∗ I))

theorem Lends.here (c : Dev nD) {s : Shape} {e : EltTy} (M : Memref sig .tc .vmem s e) (R : sProp 𝕄) :
    Lends iprop(held (F := F) c M ∗ R) c M := by
  unfold Lends
  iintro ⟨H, HR⟩
  isplitl [H]; · iexact H
  iintro H
  isplitl [H]; · iexact H
  iexact HR

theorem Lends.there {c : Dev nD} {s : Shape} {e : EltTy} {M : Memref sig .tc .vmem s e} {R : sProp 𝕄} (P : sProp 𝕄)
    (h : Lends R c M) : Lends iprop(P ∗ R) c M := by
  unfold Lends at h ⊢
  iintro ⟨HP, HR⟩
  ihave H := h $$ HR
  icases H with ⟨H, Hb⟩
  isplitl [H]; · iexact H
  iintro H
  isplitl [HP]; · iexact HP
  iapply Hb
  iexact H

/-- The program `p` on core `c` runs from `I` back to `I`. -/
def Keeps (c : Dev nD) (I : sProp 𝕄) {α : Type} (p : Prog (TpuEff nD τ sig (Elt F) Λ₀ .tc) α) : Prop :=
  ∀ E : Set ℕ, I ⊢ wp frame (wpE (defs₀ (F := F)) Variants.none c none) E p (fun _ => I)

theorem Keeps.pure {c : Dev nD} {I : sProp 𝕄} {α : Type} (a : α) : Keeps c I (Pure.pure a : Prog (TpuEff nD τ sig (Elt F) Λ₀ .tc) α) := by
  intro E
  rw [wp_pure]
  exact fupd_intro

theorem Keeps.bind {c : Dev nD} {I : sProp 𝕄} {α β : Type} {p : Prog (TpuEff nD τ sig (Elt F) Λ₀ .tc) α} {k : α → Prog (TpuEff nD τ sig (Elt F) Λ₀ .tc) β}
    (hp : Keeps c I p) (hk : ∀ a, Keeps c I (k a)) : Keeps c I (p >>= k) := by
  intro E
  rw [wp_bind]
  exact (hp E).trans (wp_mono _ _ _ fun a => hk a E)

theorem Keeps.cond {c : Dev nD} {I : sProp 𝕄} {α : Type} {P : Prop} [Decidable P] {p : P → Prog (TpuEff nD τ sig (Elt F) Λ₀ .tc) α} {q : ¬P → Prog (TpuEff nD τ sig (Elt F) Λ₀ .tc) α}
    (hp : ∀ h, Keeps c I (p h)) (hq : ∀ h, Keeps c I (q h)) : Keeps c I (dite P p q) := by
  by_cases h : P
  · rw [dif_pos h]; exact hp h
  · rw [dif_neg h]; exact hq h

theorem Keeps.choose {c : Dev nD} {I : sProp 𝕄} {α : Type} {P : Prop} [Decidable P] {p q : Prog (TpuEff nD τ sig (Elt F) Λ₀ .tc) α}
    (hp : Keeps c I p) (hq : Keeps c I q) : Keeps c I (ite P p q) := by
  by_cases h : P
  · rw [if_pos h]; exact hp
  · rw [if_neg h]; exact hq

/-- A continuation named before a branch and shared by its arms. -/
theorem Keeps.join {c : Dev nD} {I : sProp 𝕄} {α β : Type} {v : β → Prog (TpuEff nD τ sig (Elt F) Λ₀ .tc) α}
    {b : (β → Prog (TpuEff nD τ sig (Elt F) Λ₀ .tc) α) → Prog (TpuEff nD τ sig (Elt F) Λ₀ .tc) α}
    (hv : ∀ x, Keeps c I (v x)) (hb : ∀ j, (∀ x, Keeps c I (j x)) → Keeps c I (b j)) :
    Keeps c I (let j := v; b j) :=
  hb v hv

/-- A value named on the way. -/
theorem Keeps.name {c : Dev nD} {I : sProp 𝕄} {α : Type} {β : Sort*} {v : β} {b : β → Prog (TpuEff nD τ sig (Elt F) Λ₀ .tc) α}
    (hb : ∀ x, Keeps c I (b x)) : Keeps c I (let x := v; b x) :=
  hb v

/-- A continuation already known to run from `I` back to `I`. -/
theorem Keeps.again {c : Dev nD} {I : sProp 𝕄} {α β : Type} {j : β → Prog (TpuEff nD τ sig (Elt F) Λ₀ .tc) α}
    (hj : ∀ x, Keeps c I (j x)) (x : β) : Keeps c I (j x) :=
  hj x

theorem Keeps.load {c : Dev nD} {I : sProp 𝕄} {s : Shape} {e : EltTy} {M : Memref sig .tc .vmem s e} (hM : Lends I c M) {r : LoadRect s} {hl : M.view.LoadsAt r} :
    Keeps c I (Prog.lift (.load M r hl)) := by
  intro E
  refine hM.trans ?_
  unfold held owns
  iintro ⟨⟨%X, %f, %hf, H⟩, Hb⟩
  unfold Prog.lift
  iapply (wp_load Variants.none (c : Thread nD τ) none E (m := M) (r := r) (hl := hl) (View.setOn_subset_set M.view r.set)) $$ H
  iintro H
  rw [wp_ret]
  imodintro
  iapply Hb
  iexists _, f
  isplitr; · ipureintro; rfl
  iexact H

theorem Keeps.store {c : Dev nD} {I : sProp 𝕄} {s : Shape} {e : EltTy} {M : Memref sig .tc .vmem s e} (hM : Lends I c M) {r : Rect s} {w : r.shape.Idx → Elt F e}
    {Mk : Finset r.shape.Idx} {hx : (M.access r).Stores Mk} {hm : Mk = Finset.univ ∨ ∀ a, r.stride a = 1} :
    Keeps c I (Prog.lift (.store M r w Mk hx hm)) := by
  intro E
  refine hM.trans ?_
  unfold held owns
  iintro ⟨⟨%X, %f, %hf, H⟩, Hb⟩
  unfold Prog.lift
  iapply (wp_store Variants.none (c : Thread nD τ) none E (m := M) (r := r) (Mk := Mk) (hx := hx) (hm := hm) ((View.setOn_subset_set (M.access r) Mk).trans (View.set_slice_subset M.view r))) $$ H
  iintro H
  rw [wp_ret]
  imodintro
  iapply Hb
  iexists _, _
  isplitr; swap; · iexact H
  ipureintro; rfl
end Cert.KernelIdeal.Attn

end
-- ==== Proof.Walk.lean ====
/- The attention kernel's body keeps "every memref it is handed, at some contents" (Keeps.lean), along every branch:
   the printed functions are their skeletons of loads, stores and branches, and each is one of the closure lemmas. -/
module

public import proofs.«01_k».proof.Proof.Keeps
public import proofs.«01_k».proof.Proof.Gen.KernelIdeal.Skeleton

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- The body keeps any assertion that lends out each memref it is handed. -/
theorem keeps_body (c : Dev nD) (I : sProp 𝕄) (i : grid0.Coords)
    (arg3 : Memref sig .tc .vmem S1x256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x1x128x128 .bf16) (harg7 : arg7.IsWhole) (arg8 : Memref sig .tc .vmem S1x1x128x128 .bf16) (harg8 : arg8.IsWhole) (arg9 : Memref sig .tc .vmem S1x2048x256 .bf16) (harg9 : arg9.IsWhole) (arg10 : Memref sig .tc .vmem S1x16x144x128 .bf16) (harg10 : arg10.IsWhole) (arg11 : Memref sig .tc .vmem S1x2560x256 .bf16) (harg11 : arg11.IsWhole) (arg12 : Memref sig .tc .vmem S1x20x144x128 .bf16) (harg12 : arg12.IsWhole) (arg13 : Memref sig .tc .vmem S1x8x128 .f32) (harg13 : arg13.IsWhole) (arg14 : Memref sig .tc .vmem S1x1x1x3x1024 .f32) (harg14 : arg14.IsWhole) (arg15 : Memref sig .tc .vmem S1x256x512 .bf16) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S128x1024 .f32) (harg18 : arg18.IsWhole) (arg19 : Memref sig .tc .vmem S2048x1024 .bf16) (harg19 : arg19.IsWhole)
    (l3 : Lends I c arg3)
    (l4 : Lends I c arg4)
    (l5 : Lends I c arg5)
    (l6 : Lends I c arg6)
    (l7 : Lends I c arg7)
    (l8 : Lends I c arg8)
    (l9 : Lends I c arg9)
    (l10 : Lends I c arg10)
    (l11 : Lends I c arg11)
    (l12 : Lends I c arg12)
    (l13 : Lends I c arg13)
    (l14 : Lends I c arg14)
    (l15 : Lends I c arg15)
    (l16 : Lends I c arg16)
    (l17 : Lends I c arg17)
    (l18 : Lends I c arg18)
    (l19 : Lends I c arg19) :
    Keeps c I (cc0_nsa_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  simp -zeta only [cc0_nsa_attention_eq_skeleton]; delta cc0_nsa_attention_skel
  iterate 6 (
    repeat' (first
      | with_reducible exact Keeps.pure _
      | (with_reducible refine Keeps.load ?_; first | exact l3 | exact l4 | exact l5 | exact l6 | exact l7 | exact l8 | exact l9 | exact l10 | exact l11 | exact l12 | exact l13 | exact l14 | exact l15 | exact l16 | exact l17 | exact l18 | exact l19)
      | (with_reducible refine Keeps.store ?_; first | exact l3 | exact l4 | exact l5 | exact l6 | exact l7 | exact l8 | exact l9 | exact l10 | exact l11 | exact l12 | exact l13 | exact l14 | exact l15 | exact l16 | exact l17 | exact l18 | exact l19)
      | with_reducible refine Keeps.bind ?_ (fun _ => ?_)
      | with_reducible refine Keeps.cond (fun _ => ?_) (fun _ => ?_)
      | with_reducible refine Keeps.choose ?_ ?_
      | with_reducible refine Keeps.join (fun _ => ?_) (fun _ _ => ?_)
      | (with_reducible refine Keeps.again ?_ _; with_reducible assumption))
    all_goals (simp -zeta only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton])
    all_goals (delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel)
    all_goals beta_reduce)

end Cert.KernelIdeal.Attn

end
-- ==== Proof.Attn.lean ====
/- The attention call's frame: from any memory the call runs to its end, its argument arrays end unchanged, and
   every semaphore counter is at zero. Nothing is named of what the body leaves in its windows: the body's walk
   (Walk.lean) says that it keeps them, and the pipeline's inputs are not written back. -/
module

public import proofs.«01_k».proof.Proof.Walk
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's contents after the body go unnamed, the inputs' too. -/
def unnamed : Fin 13 → Bool := fun _ => true

/-- The pipeline's proof data: the arrays as the region finds them, nothing said of what the body leaves. -/
def data (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

theorem data_arrays (c : Dev nD) (w : Fin cfg0.W) : (data m 0 c).A w = V m c (Pipeline.arrRef spec0 w) := by
  dsimp only [data]

/-- The memrefs that the body is handed at point `t`, each held at some contents, beside an assertion it has no part in. -/
def handed (c : Dev nD) (t : Fin cfg0.N) (R : sProp 𝕄) : sProp 𝕄 :=
  iprop(held (F := F) c ((cfg0.win 0).stage (cfg0.slots t 0))
    ∗ held (F := F) c ((cfg0.win 1).stage (cfg0.slots t 1))
    ∗ held (F := F) c ((cfg0.win 2).stage (cfg0.slots t 2))
    ∗ held (F := F) c ((cfg0.win 3).stage (cfg0.slots t 3))
    ∗ held (F := F) c ((cfg0.win 4).stage (cfg0.slots t 4))
    ∗ held (F := F) c ((cfg0.win 5).stage (cfg0.slots t 5))
    ∗ held (F := F) c ((cfg0.win 6).stage (cfg0.slots t 6))
    ∗ held (F := F) c ((cfg0.win 7).stage (cfg0.slots t 7))
    ∗ held (F := F) c ((cfg0.win 8).stage (cfg0.slots t 8))
    ∗ held (F := F) c ((cfg0.win 9).stage (cfg0.slots t 9))
    ∗ held (F := F) c ((cfg0.win 10).stage (cfg0.slots t 10))
    ∗ held (F := F) c ((cfg0.win 11).stage (cfg0.slots t 11))
    ∗ held (F := F) c ((cfg0.win 12).stage (cfg0.slots t 12))
    ∗ held (F := F) c (Memref.whole cc0_scratch0)
    ∗ held (F := F) c (Memref.whole cc0_scratch1)
    ∗ held (F := F) c (Memref.whole cc0_scratch2)
    ∗ held (F := F) c (Memref.whole cc0_scratch3)
    ∗ R)

/-- The body at a point keeps what it is handed. -/
theorem keeps_point (c : Dev nD) (t : Fin cfg0.N) (R : sProp 𝕄) : Keeps c (handed c t R) (bodyAt0 (F := F) t) := by
  unfold handed bodyAt0
  exact keeps_body c _ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (Memref.isWhole_whole _) _ (Memref.isWhole_whole _) _ (Memref.isWhole_whole _) _ (Memref.isWhole_whole _)
    (Lends.here _ _ _)
    (Lends.there _ (Lends.here _ _ _))
    (Lends.there _ (Lends.there _ (Lends.here _ _ _)))
    (Lends.there _ (Lends.there _ (Lends.there _ (Lends.here _ _ _))))
    (Lends.there _ (Lends.there _ (Lends.there _ (Lends.there _ (Lends.here _ _ _)))))
    (Lends.there _ (Lends.there _ (Lends.there _ (Lends.there _ (Lends.there _ (Lends.here _ _ _))))))
    (Lends.there _ (Lends.there _ (Lends.there _ (Lends.there _ (Lends.there _ (Lends.there _ (Lends.here _ _ _)))))))
    (Lends.there _ (Lends.there _ (Lends.there _ (Lends.there _ (Lends.there _ (Lends.there _ (Lends.there _ (Lends.here _ _ _))))))))
    (Lends.there _ (Lends.there _ (Lends.there _ (Lends.there _ (Lends.there _ (Lends.there _ (Lends.there _ (Lends.there _ (Lends.here _ _ _)))))))))
    (Lends.there _ (Lends.there _ (Lends.there _ (Lends.there _ (Lends.there _ (Lends.there _ (Lends.there _ (Lends.there _ (Lends.there _ (Lends.here _ _ _))))))))))
    (Lends.there _ (Lends.there _ (Lends.there _ (Lends.there _ (Lends.there _ (Lends.there _ (Lends.there _ (Lends.there _ (Lends.there _ (Lends.there _ (Lends.here _ _ _)))))))))))
    (Lends.there _ (Lends.there _ (Lends.there _ (Lends.there _ (Lends.there _ (Lends.there _ (Lends.there _ (Lends.there _ (Lends.there _ (Lends.there _ (Lends.there _ (Lends.here _ _ _))))))))))))
    (Lends.there _ (Lends.there _ (Lends.there _ (Lends.there _ (Lends.there _ (Lends.there _ (Lends.there _ (Lends.there _ (Lends.there _ (Lends.there _ (Lends.there _ (Lends.there _ (Lends.here _ _ _)))))))))))))
    (Lends.there _ (Lends.there _ (Lends.there _ (Lends.there _ (Lends.there _ (Lends.there _ (Lends.there _ (Lends.there _ (Lends.there _ (Lends.there _ (Lends.there _ (Lends.there _ (Lends.there _ (Lends.here _ _ _))))))))))))))
    (Lends.there _ (Lends.there _ (Lends.there _ (Lends.there _ (Lends.there _ (Lends.there _ (Lends.there _ (Lends.there _ (Lends.there _ (Lends.there _ (Lends.there _ (Lends.there _ (Lends.there _ (Lends.there _ (Lends.here _ _ _)))))))))))))))
    (Lends.there _ (Lends.there _ (Lends.there _ (Lends.there _ (Lends.there _ (Lends.there _ (Lends.there _ (Lends.there _ (Lends.there _ (Lends.there _ (Lends.there _ (Lends.there _ (Lends.there _ (Lends.there _ (Lends.there _ (Lends.here _ _ _))))))))))))))))
    (Lends.there _ (Lends.there _ (Lends.there _ (Lends.there _ (Lends.there _ (Lends.there _ (Lends.there _ (Lends.there _ (Lends.there _ (Lends.there _ (Lends.there _ (Lends.there _ (Lends.there _ (Lends.there _ (Lends.there _ (Lends.there _ (Lends.here _ _ _)))))))))))))))))

/-- The scoped rest, as the scratch memrefs held at some contents. -/
theorem rest_eq (c : Dev nD) : (Pipeline.ΦA spec0 c : sProp 𝕄)
    = iprop(iprop(held (F := F) c (Memref.whole cc0_scratch0) ∗ held (F := F) c (Memref.whole cc0_scratch1) ∗ held (F := F) c (Memref.whole cc0_scratch2) ∗ held (F := F) c (Memref.whole cc0_scratch3)) ∗ (∃ r, prngReg c r)) := by
  unfold Pipeline.ΦA; rw [scopedRest0_eq]; simp only [held, owns_whole]; try rfl

/-- What the pipeline gives the body, and takes back from it. -/
def lent (c : Dev nD) (t : Fin cfg0.N) : sProp 𝕄 :=
  iprop((data m 0 c).Φ t.castSucc ∗ (data m 0 c).owesAt () t.castSucc
    ∗ held (F := F) c ((cfg0.win 0).stage (cfg0.slots t 0))
    ∗ held (F := F) c ((cfg0.win 1).stage (cfg0.slots t 1))
    ∗ held (F := F) c ((cfg0.win 2).stage (cfg0.slots t 2))
    ∗ held (F := F) c ((cfg0.win 3).stage (cfg0.slots t 3))
    ∗ held (F := F) c ((cfg0.win 4).stage (cfg0.slots t 4))
    ∗ held (F := F) c ((cfg0.win 5).stage (cfg0.slots t 5))
    ∗ held (F := F) c ((cfg0.win 6).stage (cfg0.slots t 6))
    ∗ held (F := F) c ((cfg0.win 7).stage (cfg0.slots t 7))
    ∗ held (F := F) c ((cfg0.win 8).stage (cfg0.slots t 8))
    ∗ held (F := F) c ((cfg0.win 9).stage (cfg0.slots t 9))
    ∗ held (F := F) c ((cfg0.win 10).stage (cfg0.slots t 10))
    ∗ held (F := F) c ((cfg0.win 11).stage (cfg0.slots t 11))
    ∗ held (F := F) c ((cfg0.win 12).stage (cfg0.slots t 12)))

theorem body_triple (c : Dev nD) (t : Fin cfg0.N) :
    lent m c t ⊢ wp frame (wpE (defs₀ (F := F)) Variants.none c none) Set.univ (bodyAt0 t) (fun _ => lent m c t) := by
  have hin : lent m c t ⊢ handed c t iprop((∃ r, prngReg c r) ∗ (data m 0 c).owesAt () t.castSucc) := by
    unfold lent handed
    rw [show (data m 0 c).Φ t.castSucc = Pipeline.ΦA spec0 c from rfl, rest_eq]
    iintro ⟨⟨⟨S0, S1, S2, S3⟩, G⟩, O, H0, H1, H2, H3, H4, H5, H6, H7, H8, H9, H10, H11, H12⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [G]; · iexact G
    iexact O
  have hout : handed c t iprop((∃ r, prngReg c r) ∗ (data m 0 c).owesAt () t.castSucc) ⊢ lent m c t := by
    unfold lent handed
    rw [show (data m 0 c).Φ t.castSucc = Pipeline.ΦA spec0 c from rfl, rest_eq]
    iintro ⟨H0, H1, H2, H3, H4, H5, H6, H7, H8, H9, H10, H11, H12, S0, S1, S2, S3, G, O⟩
    isplitl [S0 S1 S2 S3 G]
    · isplitl [S0 S1 S2 S3]
      · isplitl [S0]; · iexact S0
        isplitl [S1]; · iexact S1
        isplitl [S2]; · iexact S2
        iexact S3
      iexact G
    isplitl [O]; · iexact O
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  exact hin.trans ((keeps_point c t _ Set.univ).trans (wp_mono _ _ _ fun _ => hout))

/-- The body table's row at a point is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ unnamed := fun t => by
  rw [bigSep_W0, bigSep_W0, row]
  exact triple_restated (body_triple m c t) rfl .rfl fun _ => .rfl

set_option backward.isDefEq.respectTransparency.types false in
/-- The launch: the run's post, and every semaphore counter at zero. -/
theorem run : θ_run defs (onTc (τ := τ) (main (F := F))) (s₀ m ρ) (fun r => (Pipeline.RDat.FramePost (cfgs 0) (fun c => (data m 0 c).toRForget unnamed) (V m)) r ∧ r.2.sem = fun _ => 0) :=
  Pipeline.θ_run_frame_forget (Q' := _) cfgs (data m) (0 : Fin 1) launch0 defs₀ Variants.none unnamed m ρ main
    (hbody := fun c => (obligation m c).loose) (hshare := fun _ w => by simp [Dat.share, data])
    (howed := fun _ _ => rfl) (V := V m) (hmain := hmain m Variants.none) (hA := data_arrays m) (hΦ := fun _ _ => rfl)

/-- The frame: the argument arrays end unchanged, and every semaphore counter is at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11))
    ∧ r.2.sem = fun _ => 0) :=
  (θ_run defs _ _).mono (fun _ h => ⟨fun c => ⟨(Pipeline.RDat.FramePost.arr_in h.1 c 0 rfl).trans (V_main_arg0 m c),
    (Pipeline.RDat.FramePost.arr_in h.1 c 1 rfl).trans (V_main_arg1 m c),
    (Pipeline.RDat.FramePost.arr_in h.1 c 2 rfl).trans (V_main_arg2 m c),
    (Pipeline.RDat.FramePost.arr_in h.1 c 3 rfl).trans (V_main_arg3 m c),
    (Pipeline.RDat.FramePost.arr_in h.1 c 4 rfl).trans (V_main_arg4 m c),
    (Pipeline.RDat.FramePost.arr_in h.1 c 5 rfl).trans (V_main_arg5 m c),
    (Pipeline.RDat.FramePost.arr_in h.1 c 6 rfl).trans (V_main_arg6 m c),
    (Pipeline.RDat.FramePost.arr_in h.1 c 7 rfl).trans (V_main_arg7 m c),
    (Pipeline.RDat.FramePost.arr_in h.1 c 8 rfl).trans (V_main_arg8 m c),
    (Pipeline.RDat.FramePost.arr_in h.1 c 9 rfl).trans (V_main_arg9 m c),
    (Pipeline.RDat.FramePost.arr_in h.1 c 10 rfl).trans (V_main_arg10 m c),
    (Pipeline.RDat.FramePost.arr_in h.1 c 11 rfl).trans (V_main_arg11 m c)⟩, h.2⟩) (run m ρ)

end Cert.KernelIdeal.Attn

end
-- ==== Proof.Same.lean ====
/- The attention call's two programs, over floats and idealized, have one text; so their bodies are equal, and what
   is proved of the run of one holds of the other's. -/
module

public import proofs.«01_k».proof.Defs
public import proofs.«01_k».proof.Proof.Gen.Kernel
public import proofs.«01_k».proof.Proof.Attn

@[expose] public section

set_option maxRecDepth 65536

namespace Cert.Same

open Idealize.ShloMosaic Idealize.ShloMosaic.TcCoe Idealize.SL.Sem

set_option maxHeartbeats 4000000 in
/-- The body behind a label is the same in both programs. -/
theorem bodies_eq (l) (x) :
    Cert.Kernel.defs₀ (F := Bits) .tc l x = Cert.KernelIdeal.defs₀ (F := Bits) .tc l x := by
  obtain ⟨l, hl⟩ := l
  have h0 : l = 0 := by omega
  subst h0
  obtain ⟨t, s⟩ := x
  rfl

set_option maxHeartbeats 4000000 in
/-- The two programs define the same bodies, the pipeline's included. -/
theorem defs_eq : Cert.Kernel.defs (F := Bits) = Cert.KernelIdeal.defs (F := Bits) :=
  congrArg (fun D => Pipeline.defs Cert.KernelIdeal.pcfgs (Defs.onTc D))
    (funext fun l => funext fun x => bodies_eq l x)

set_option maxHeartbeats 4000000 in
/-- The attention call over floats, from any memory, runs to its end with its arguments unchanged and every
    semaphore counter at zero: the run of the idealized text, taken over floats. -/
theorem frame : Cert.quiescent_Kernel (hKernel := Cert.Kernel.Gen.facts) := by
  intro m ρ _
  rw [defs_eq]
  exact Cert.KernelIdeal.Attn.frame (F := Bits) m ρ

end Cert.Same

end
-- ==== Proof.Up.lean ====
/- The MLP up-projection: the kernel's hidden activations are the reference's. -/
module

public import proofs.«01_k».proof.Proof.Gen.Kernel2Ideal.Frame
public import proofs.«01_k».proof.Proof.Gen.Reference2Ideal
public import Idealize.ShloMosaic.Lib.Pipeline.ValueKit
public import Idealize.ShloMosaic.Lib.StableHlo.Run

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The product clipped below at zero, over the normed stream and the weights. -/
abbrev relu (x : FVec Ideal Cert.Reference2Ideal.S32768x2048 .bf16) (w : FVec Ideal Cert.Reference2Ideal.S2048x8192 .f32) : FVec Ideal Cert.Reference2Ideal.S32768x8192 .f32 :=
  maximumf (Host.dotGeneral Cert.Reference2Ideal.dot_S32768x2048_S2048x8192_S32768x8192_1_0_0_1_n_n none (extf .f32 x Cert.Reference2Ideal.Gen.bitsLt_bf16_f32) w)
    (broadcastInDim Cert.Reference2Ideal.S32768x8192 ![] Cert.Reference2Ideal.Gen.bcast_S_S32768x8192 (constant Cert.Reference2Ideal.S_ .f32 0x00000000#32))

/-- The reference's hidden activations, as a term over the normed stream and the weights. -/
abbrev hidden (x : FVec Ideal Cert.Reference2Ideal.S32768x2048 .bf16) (w : FVec Ideal Cert.Reference2Ideal.S2048x8192 .f32) : FVec Ideal Cert.Reference2Ideal.S32768x8192 .bf16 :=
  truncf .bf16 (mulf (relu x w) (relu x w)) Cert.Reference2Ideal.Gen.bitsLt_bf16_f32

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What the body stores at a place of point `t`'s block is the reference at the array index there. -/
theorem point (c : Dev nD) (t : Fin cfg0.N) (y) : k0_pay1 (iblk m c 0 t) (iblk m c 1 t) y
    = hidden (m ((c : Thread nD τ).loc main_arg0)) (m ((c : Thread nD τ).loc main_arg1)) (((cfg0.win 2).blk t).view.emb y) := by
  pointwise [k0_pay1, hidden, relu]
  blk_point [iblk, V, idx t]

/-- The call's result is the reference's hidden activations. -/
theorem final (c : Dev nD) : (dats m 0 c).arrAt 2 (cfgs 0).N
    = hidden (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Up

end
-- ==== Proof.Down.lean ====
/- The MLP down-projection with its norm: the kernel's stream is the reference's. -/
module

public import proofs.«01_k».proof.Proof.Gen.Kernel3Ideal.Frame
public import proofs.«01_k».proof.Proof.Gen.Reference3Ideal
public import Idealize.ShloMosaic.Lib.Pipeline.ValueKit
public import Idealize.ShloMosaic.Lib.StableHlo.Run

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference3Ideal.S2048 .f32) : FVec Ideal Cert.Reference3Ideal.S32768x2048 .f32 :=
  broadcastInDim Cert.Reference3Ideal.S32768x2048 ![0, 1] Cert.Reference3Ideal.Gen.bcast_S1x2048_S32768x2048_0_1 (broadcastInDim Cert.Reference3Ideal.S1x2048 ![1] Cert.Reference3Ideal.Gen.bcast_S2048_S1x2048_1 g)

/-- The reciprocal root of the rows' mean squares. -/
abbrev scale (y : FVec Ideal Cert.Reference3Ideal.S32768x2048 .f32) : FVec Ideal Cert.Reference3Ideal.S32768x1 .f32 :=
  Host.rsqrt (addf (Host.divf (broadcastInDim Cert.Reference3Ideal.S32768x1 ![0] Cert.Reference3Ideal.Gen.bcast_S32768_S32768x1_0
      (Host.reduceAdd (mulf y y) (constant Cert.Reference3Ideal.S_ .f32 0x00000000#32) Cert.Reference3Ideal.Gen.reducesTo_S32768x2048_S32768_d1 Cert.Reference3Ideal.Gen.h_S_))
    (broadcastInDim Cert.Reference3Ideal.S32768x1 ![] Cert.Reference3Ideal.Gen.bcast_S_S32768x1 (constant Cert.Reference3Ideal.S_ .f32 0x45000000#32)))
    (broadcastInDim Cert.Reference3Ideal.S32768x1 ![] Cert.Reference3Ideal.Gen.bcast_S_S32768x1 (constant Cert.Reference3Ideal.S_ .f32 0x358637BD#32)))

/-- The rows normed by their mean squares, times the gains. -/
abbrev normed (y : FVec Ideal Cert.Reference3Ideal.S32768x2048 .f32) (g : FVec Ideal Cert.Reference3Ideal.S2048 .f32) : FVec Ideal Cert.Reference3Ideal.S32768x2048 .f32 :=
  mulf (mulf y (broadcastInDim Cert.Reference3Ideal.S32768x2048 ![0, 1] Cert.Reference3Ideal.Gen.bcast_S32768x1_S32768x2048_0_1 (scale y))) (gains g)

/-- The reference's down-projection. -/
def projected (x : FVec Ideal Cert.Reference3Ideal.S32768x8192 .bf16) (w : FVec Ideal Cert.Reference3Ideal.S8192x2048 .f32) : FVec Ideal Cert.Reference3Ideal.S32768x2048 .f32 :=
  Host.dotGeneral Cert.Reference3Ideal.dot_S32768x8192_S8192x2048_S32768x2048_1_0_0_1_n_n none (extf .f32 x Cert.Reference3Ideal.Gen.bitsLt_bf16_f32) w

/-- The stream after the MLP: the stream before, plus the normed projection. -/
abbrev stream (x : FVec Ideal Cert.Reference3Ideal.S32768x8192 .bf16) (w : FVec Ideal Cert.Reference3Ideal.S8192x2048 .f32) (h : FVec Ideal Cert.Reference3Ideal.S32768x2048 .f32) (g : FVec Ideal Cert.Reference3Ideal.S2048 .f32) : FVec Ideal Cert.Reference3Ideal.S32768x2048 .f32 :=
  addf h (normed (projected x w) g)

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] :=
  (by decide +kernel : ∀ t : Fin grid0.N, _)

/-- The accumulator starts at zero. -/
theorem cleared (j) : k0_pay1 (F := Ideal) j = 0 := by pointwise [k0_pay1]

/-- A step adds one block's product to the accumulator. -/
theorem stepped (a : FVec Ideal S512x2048 .f32) (x : FVec Ideal S512x2048 .bf16) (w : FVec Ideal S2048x2048 .bf16) (j) :
    k0_pay2 a x w j = a j + ∑ k : Fin 2048, x (ix2 (j 0) k) * w (ix2 k (j 1)) := by pointwise [k0_pay2]

/-- The projection as one sum. -/
theorem projected_at (x : FVec Ideal Cert.Reference3Ideal.S32768x8192 .bf16) (w : FVec Ideal Cert.Reference3Ideal.S8192x2048 .f32) (j) :
    projected x w j = ∑ k : Fin 8192, x (ix2 (j 0) k) * w (ix2 k (j 1)) := by pointwise [projected]

/-- At a row block's last point the accumulator holds the whole projection. -/
theorem gathered (c : Dev nD) (t : Fin cfg0.N) (hf : t.val % 4 = 3) (j) : (outsAt0 m c t.val t.isLt).2 j
    = projected (m ((c : Thread nD τ).loc main_arg0)) (m ((c : Thread nD τ).loc main_arg1)) (((cfg0.win 4).blk t).view.emb j) := by
  rw [Pipeline.eq_sum_fin_of_reset_step_apply_of_flush (fun n h => (outsAt0 m c n h).2) 4 (fun _ => 0) _
    (fun t h j => by rw [outsAt0_A m c t h (by omega)]; frame_out; rw [stepped, cleared])
    (fun t h j => by
      by_cases h1 : t.val % 4 = 3
      · rw [outsAt0_C m c t h h1]; frame_out; erw [Memref.IsWhole.read_unread]; rw [stepped]
      · rw [outsAt0_B m c t h h1]; frame_out; erw [Memref.IsWhole.read_unread]; rw [stepped])
    t hf j, zero_add, projected_at]
  refine Fin.sum_mul_add_congr fun s k hl => ?_
  blk_point [iblk, V, idx t, idx ⟨_, Pipeline.run_point_lt_of_flush t hf s⟩]

/-- The call's result is the reference's stream. -/
theorem final (c : Dev nD) : (dats m 0 c).arrAt 4 (cfgs 0).N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 4 = 3 := (flush0_4 t).mp hf
  have hg := gathered m c t h
  blk_simp
  rw [after0_4, outsAt0_C m c t (by omega) h]
  rw [outsAt0_C m c t (by omega) h] at hg
  revert hg
  frame_out
  intro hg
  generalize k0_pay2 (F := Ideal) _ _ _ = p at hg ⊢
  pointwise [k0_pay3, stream, normed, scale, gains]
  simp only [hg]
  blk_point [iblk, V, idx t]

end Cert.Kernel3Ideal.Down

end
-- ==== Proof.Pw2.lean ====
/- The second pointwise convolution with its norms: the kernel's stream is the reference's. -/
module

public import proofs.«01_k».proof.Proof.Gen.Kernel4Ideal.Frame
public import proofs.«01_k».proof.Proof.Gen.Reference4Ideal
public import Idealize.ShloMosaic.Lib.Pipeline.ValueKit
public import Idealize.ShloMosaic.Lib.StableHlo.Run

@[expose] public section

set_option maxRecDepth 16384

noncomputable section

namespace Cert.Kernel4Ideal.Pw2

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference4Ideal.S2048 .f32) : FVec Ideal Cert.Reference4Ideal.S32768x2048 .f32 :=
  broadcastInDim Cert.Reference4Ideal.S32768x2048 ![0, 1] Cert.Reference4Ideal.Gen.bcast_S1x2048_S32768x2048_0_1 (broadcastInDim Cert.Reference4Ideal.S1x2048 ![1] Cert.Reference4Ideal.Gen.bcast_S2048_S1x2048_1 g)

/-- The reciprocal root of the rows' mean squares. -/
abbrev scale (y : FVec Ideal Cert.Reference4Ideal.S32768x2048 .f32) : FVec Ideal Cert.Reference4Ideal.S32768x1 .f32 :=
  Host.rsqrt (addf (Host.divf (broadcastInDim Cert.Reference4Ideal.S32768x1 ![0] Cert.Reference4Ideal.Gen.bcast_S32768_S32768x1_0
      (Host.reduceAdd (mulf y y) (constant Cert.Reference4Ideal.S_ .f32 0x00000000#32) Cert.Reference4Ideal.Gen.reducesTo_S32768x2048_S32768_d1 Cert.Reference4Ideal.Gen.h_S_))
    (broadcastInDim Cert.Reference4Ideal.S32768x1 ![] Cert.Reference4Ideal.Gen.bcast_S_S32768x1 (constant Cert.Reference4Ideal.S_ .f32 0x45000000#32)))
    (broadcastInDim Cert.Reference4Ideal.S32768x1 ![] Cert.Reference4Ideal.Gen.bcast_S_S32768x1 (constant Cert.Reference4Ideal.S_ .f32 0x358637BD#32)))

/-- The rows normed by their mean squares, times the gains. -/
abbrev normed (y : FVec Ideal Cert.Reference4Ideal.S32768x2048 .f32) (g : FVec Ideal Cert.Reference4Ideal.S2048 .f32) : FVec Ideal Cert.Reference4Ideal.S32768x2048 .f32 :=
  mulf (mulf y (broadcastInDim Cert.Reference4Ideal.S32768x2048 ![0, 1] Cert.Reference4Ideal.Gen.bcast_S32768x1_S32768x2048_0_1 (scale y))) (gains g)

/-- The mixer's output before the norm. -/
abbrev mixed (x : FVec Ideal Cert.Reference4Ideal.S32768x2048 .bf16) (w : FVec Ideal Cert.Reference4Ideal.S2048x2048 .f32) (b : FVec Ideal Cert.Reference4Ideal.S2048 .f32) : FVec Ideal Cert.Reference4Ideal.S32768x2048 .f32 :=
  addf (Host.dotGeneral Cert.Reference4Ideal.dot_S32768x2048_S2048x2048_S32768x2048_1_0_0_1_n_n none (extf .f32 x Cert.Reference4Ideal.Gen.bitsLt_bf16_f32) w) (gains b)

/-- The stream after the mixer: the stream before, plus the normed output. -/
abbrev stream (x : FVec Ideal Cert.Reference4Ideal.S32768x2048 .bf16) (w : FVec Ideal Cert.Reference4Ideal.S2048x2048 .f32) (b : FVec Ideal Cert.Reference4Ideal.S2048 .f32) (h : FVec Ideal Cert.Reference4Ideal.S32768x2048 .f32) (g : FVec Ideal Cert.Reference4Ideal.S2048 .f32) : FVec Ideal Cert.Reference4Ideal.S32768x2048 .f32 :=
  addf h (normed (mixed x w b) g)

/-- The stream after the mixer, normed for the next sublayer. -/
abbrev next (x : FVec Ideal Cert.Reference4Ideal.S32768x2048 .bf16) (w : FVec Ideal Cert.Reference4Ideal.S2048x2048 .f32) (b : FVec Ideal Cert.Reference4Ideal.S2048 .f32) (h : FVec Ideal Cert.Reference4Ideal.S32768x2048 .f32) (g gn : FVec Ideal Cert.Reference4Ideal.S2048 .f32) : FVec Ideal Cert.Reference4Ideal.S32768x2048 .bf16 :=
  truncf .bf16 (normed (stream x w b h g) gn) Cert.Reference4Ideal.Gen.bitsLt_bf16_f32

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

theorem point_stream (c : Dev nD) (t : Fin cfg0.N) (y) : k0_pay2 (iblk m c 0 t) (iblk m c 1 t) (iblk m c 2 t) (iblk m c 3 t) (iblk m c 4 t) y
    = stream (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, stream, mixed, normed, scale, gains]
  blk_point [iblk, V, idx t]

theorem point_next (c : Dev nD) (t : Fin cfg0.N) (y) : k0_pay1 (k0_pay3 (iblk m c 0 t) (iblk m c 1 t) (iblk m c 2 t) (iblk m c 3 t) (iblk m c 4 t)) (iblk m c 5 t) y
    = next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, k0_pay3, next, stream, mixed, normed, scale, gains]
  blk_point [iblk, V, idx t]

/-- The call's first result is the reference's stream. -/
theorem final_stream (c : Dev nD) : (dats m 0 c).arrAt 6 (cfgs 0).N = stream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_stream m c t y

/-- The call's second result is the reference's normed stream. -/
theorem final_next (c : Dev nD) : (dats m 0 c).arrAt 7 (cfgs 0).N = next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point_next m c t y

end Cert.Kernel4Ideal.Pw2

end
-- ==== Proof.Glu.lean ====
/- The gated linear unit: the kernel's product is the reference's. -/
module

public import proofs.«01_k».proof.Proof.Gen.Kernel5Ideal.Frame
public import proofs.«01_k».proof.Proof.Gen.Reference5Ideal
public import Idealize.ShloMosaic.Lib.Pipeline.ValueKit
public import Idealize.ShloMosaic.Lib.StableHlo.Run

@[expose] public section

set_option maxRecDepth 16384

noncomputable section

namespace Cert.Kernel5Ideal.Glu

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The product with the bias added, over the normed stream. -/
def both (x : FVec Ideal Cert.Reference5Ideal.S32768x2048 .bf16) (w : FVec Ideal Cert.Reference5Ideal.S2048x4096 .f32) (b : FVec Ideal Cert.Reference5Ideal.S4096 .f32) : FVec Ideal Cert.Reference5Ideal.S32768x4096 .f32 :=
  addf (Host.dotGeneral Cert.Reference5Ideal.dot_S32768x2048_S2048x4096_S32768x4096_1_0_0_1_n_n none (extf .f32 x Cert.Reference5Ideal.Gen.bitsLt_bf16_f32) w)
    (broadcastInDim Cert.Reference5Ideal.S32768x4096 ![0, 1] Cert.Reference5Ideal.Gen.bcast_S1x4096_S32768x4096_0_1 (broadcastInDim Cert.Reference5Ideal.S1x4096 ![1] Cert.Reference5Ideal.Gen.bcast_S4096_S1x4096_1 b))

/-- The number one at every place. -/
abbrev ones : FVec Ideal Cert.Reference5Ideal.S32768x2048 .f32 :=
  broadcastInDim Cert.Reference5Ideal.S32768x2048 ![] Cert.Reference5Ideal.Gen.bcast_S_S32768x2048 (constant Cert.Reference5Ideal.S_ .f32 0x3F800000#32)

/-- Of an array, the left half times the sigmoid of the right half. -/
abbrev glu (u : FVec Ideal Cert.Reference5Ideal.S32768x4096 .f32) : FVec Ideal Cert.Reference5Ideal.S32768x2048 .f32 :=
  mulf (extractStridedSlice Cert.Reference5Ideal.S32768x2048 ![0, 0] u Cert.Reference5Ideal.Gen.slices_S32768x4096_S32768x2048_0_0)
    (Host.divf ones (addf ones (Host.exp (Host.negf
      (extractStridedSlice Cert.Reference5Ideal.S32768x2048 ![0, 2048] u Cert.Reference5Ideal.Gen.slices_S32768x4096_S32768x2048_0_2048)))))

/-- The gated product of the normed stream. -/
abbrev gated (x : FVec Ideal Cert.Reference5Ideal.S32768x2048 .bf16) (w : FVec Ideal Cert.Reference5Ideal.S2048x4096 .f32) (b : FVec Ideal Cert.Reference5Ideal.S4096 .f32) : FVec Ideal Cert.Reference5Ideal.S32768x2048 .f32 :=
  glu (both x w b)

/-- One half of the body's product: a block of rows with a block of columns, the bias added. -/
def half (a : FVec Ideal S1024x2048 .bf16) (w : FVec Ideal S2048x1024 .bf16) (b : FVec Ideal S1x1024 .f32) : FVec Ideal S1024x1024 .f32 :=
  addf (matmul dot_S1024x2048_S2048x1024_S1024x1024_1_0_0_1_n_n none a (shapeCast S2048x1024 w shapeCasts_S2048x1024_S2048x1024) (constant S1024x1024 .f32 0x00000000#32))
    (broadcastTo S1024x1024 (shapeCast S1x1024 b shapeCasts_S1x1024_S1x1024) broadcasts_S1x1024_S1024x1024)

/-- What the body does with the two halves. -/
def gate (p q : FVec Ideal S1024x1024 .f32) : FVec Ideal S1024x1024 .f32 :=
  mulf p (divf (broadcast S1024x1024 (Scalar.ofBits .f32 0x3F800000#32))
    (addf (broadcast S1024x1024 (Scalar.ofBits .f32 0x3F800000#32)) (exp (subf (broadcast S1024x1024 (Scalar.ofBits .f32 0x00000000#32)) q))))

theorem pay_eq (a : FVec Ideal S1024x2048 .bf16) (w w' : FVec Ideal S2048x1024 .bf16) (b b' : FVec Ideal S1x1024 .f32) :
    k0_pay1 (F := Ideal) a w b w' b' = gate (half a w b) (half a w' b') := rfl

/-- The gating, place by place. -/
theorem gate_at (p q : FVec Ideal S1024x1024 .f32) (u : FVec Ideal Cert.Reference5Ideal.S32768x4096 .f32) (y z)
    (hp : p y = extractStridedSlice Cert.Reference5Ideal.S32768x2048 ![0, 0] u Cert.Reference5Ideal.Gen.slices_S32768x4096_S32768x2048_0_0 z)
    (hq : q y = extractStridedSlice Cert.Reference5Ideal.S32768x2048 ![0, 2048] u Cert.Reference5Ideal.Gen.slices_S32768x4096_S32768x2048_0_2048 z) :
    gate p q y = glu u z := by
  unfold glu
  generalize extractStridedSlice Cert.Reference5Ideal.S32768x2048 ![0, 0] u Cert.Reference5Ideal.Gen.slices_S32768x4096_S32768x2048_0_0 = a at hp ⊢
  generalize extractStridedSlice Cert.Reference5Ideal.S32768x2048 ![0, 2048] u Cert.Reference5Ideal.Gen.slices_S32768x4096_S32768x2048_0_2048 = b at hq ⊢
  pointwise [gate, ones]
  rw [hp, hq, zero_sub]

theorem idx : ∀ t : Fin cfg0.N, win0_0.index t = ![t.val / 2, 0] ∧ win0_1.index t = ![0, t.val % 2]
    ∧ win0_2.index t = ![0, t.val % 2 + 2] ∧ win0_3.index t = ![0, t.val % 2] ∧ win0_4.index t = ![0, t.val % 2 + 2]
    ∧ win0_5.index t = ![t.val / 2, t.val % 2] :=
  (by decide +kernel : ∀ t : Fin grid0.N, _)

theorem slice_left (u : FVec Ideal Cert.Reference5Ideal.S32768x4096 .f32) (z) :
    extractStridedSlice Cert.Reference5Ideal.S32768x2048 ![0, 0] u Cert.Reference5Ideal.Gen.slices_S32768x4096_S32768x2048_0_0 z
      = u (ix2 (z 0) ⟨(z 1).val, by have h : (z 1).val < 2048 := (z 1).isLt; show _ < 4096; omega⟩) := by
  pointwise []

theorem slice_right (u : FVec Ideal Cert.Reference5Ideal.S32768x4096 .f32) (z) :
    extractStridedSlice Cert.Reference5Ideal.S32768x2048 ![0, 2048] u Cert.Reference5Ideal.Gen.slices_S32768x4096_S32768x2048_0_2048 z
      = u (ix2 (z 0) ⟨2048 + (z 1).val, by have h : (z 1).val < 2048 := (z 1).isLt; show _ < 4096; omega⟩) := by
  pointwise []

theorem both_at (x : FVec Ideal Cert.Reference5Ideal.S32768x2048 .bf16) (w : FVec Ideal Cert.Reference5Ideal.S2048x4096 .f32) (b : FVec Ideal Cert.Reference5Ideal.S4096 .f32) (j) :
    both x w b j = (∑ k : Fin 2048, x (ix2 (j 0) k) * w (ix2 k (j 1))) + b (ix1 (j 1)) := by
  pointwise [both]

theorem half_at (x : FVec Ideal S1024x2048 .bf16) (w : FVec Ideal S2048x1024 .bf16) (b : FVec Ideal S1x1024 .f32) (j) :
    half x w b j = (∑ k : Fin 2048, x (ix2 (j 0) k) * w (ix2 k (j 1))) + b (ix2 0 (j 1)) := by
  pointwise [half]

theorem rows_at (c : Dev nD) (t : Fin cfg0.N) (y : S1024x1024.Idx) (k : Fin 2048) : (iblk m c 0 t : FVec Ideal S1024x2048 .bf16) (ix2 (y 0) k)
    = m ((c : Thread nD τ).loc main_arg0) (ix2 ((((cfg0.win 5).blk t).view.emb y : S32768x2048.Idx) 0) k) := by
  blk_point [iblk, V, idx t]

theorem cols_at (c : Dev nD) (t : Fin cfg0.N) (y : S1024x1024.Idx) (k : Fin 2048) : (iblk m c 1 t : FVec Ideal S2048x1024 .bf16) (ix2 k (y 1))
    = m ((c : Thread nD τ).loc main_arg1) (ix2 k ⟨((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩) := by
  blk_point [iblk, V, idx t]

/-- The bias as one row is the bias. -/
theorem bias_row (c : Dev nD) : (V m c main_v1 : FVec Ideal S1x4096 .f32)
    = shapeCast S1x4096 (m ((c : Thread nD τ).loc main_arg2) : FVec Ideal S4096 .f32) shapeCasts_S4096_S1x4096 := rfl

set_option maxRecDepth 100000 in
theorem row_at (v : FVec Ideal S4096 .f32) (j : Fin 4096) : shapeCast S1x4096 v shapeCasts_S4096_S1x4096 (ix2 0 j) = v (ix1 j) := by
  pointwise []

theorem row_bias (c : Dev nD) (j : Fin 4096) : (V m c main_v1 : FVec Ideal S1x4096 .f32) (ix2 0 j) = m ((c : Thread nD τ).loc main_arg2) (ix1 j) :=
  (congrFun (bias_row m c) _).trans (row_at _ j)

theorem bias_at (c : Dev nD) (t : Fin cfg0.N) (y : S1024x1024.Idx) : (iblk m c 3 t : FVec Ideal S1x1024 .f32) (ix2 0 (y 1))
    = m ((c : Thread nD τ).loc main_arg2) (ix1 ⟨((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩) := by
  refine Eq.trans ?_ (row_bias m c ⟨((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩)
  blk_point [iblk, idx t]

theorem cols_right (c : Dev nD) (t : Fin cfg0.N) (y : S1024x1024.Idx) (k : Fin 2048) : (iblk m c 2 t : FVec Ideal S2048x1024 .bf16) (ix2 k (y 1))
    = m ((c : Thread nD τ).loc main_arg1) (ix2 k ⟨2048 + ((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩) := by
  blk_point [iblk, V, idx t]

theorem bias_right (c : Dev nD) (t : Fin cfg0.N) (y : S1024x1024.Idx) : (iblk m c 4 t : FVec Ideal S1x1024 .f32) (ix2 0 (y 1))
    = m ((c : Thread nD τ).loc main_arg2) (ix1 ⟨2048 + ((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩) := by
  refine Eq.trans ?_ (row_bias m c ⟨2048 + ((((cfg0.win 5).blk t).view.emb y : S32768x2048.Idx) 1).val, by have h : ((((cfg0.win 5).blk t).view.emb y : S32768x2048.Idx) 1).val < 2048 := ((((cfg0.win 5).blk t).view.emb y : S32768x2048.Idx) 1).isLt; show _ < 4096; omega⟩)
  blk_point [iblk, idx t]

theorem left_at (c : Dev nD) (t : Fin cfg0.N) (y) : half (iblk m c 0 t) (iblk m c 1 t) (iblk m c 3 t) y
    = extractStridedSlice Cert.Reference5Ideal.S32768x2048 ![0, 0] (both (m ((c : Thread nD τ).loc main_arg0)) (m ((c : Thread nD τ).loc main_arg1)) (m ((c : Thread nD τ).loc main_arg2)))
        Cert.Reference5Ideal.Gen.slices_S32768x4096_S32768x2048_0_0 (((cfg0.win 5).blk t).view.emb y) := by
  rw [half_at, slice_left, both_at]
  exact congrArg₂ (· + ·) (Finset.sum_congr rfl fun k _ => congrArg₂ (· * ·) (rows_at m c t y k) (cols_at m c t y k)) (bias_at m c t y)

theorem right_at (c : Dev nD) (t : Fin cfg0.N) (y) : half (iblk m c 0 t) (iblk m c 2 t) (iblk m c 4 t) y
    = extractStridedSlice Cert.Reference5Ideal.S32768x2048 ![0, 2048] (both (m ((c : Thread nD τ).loc main_arg0)) (m ((c : Thread nD τ).loc main_arg1)) (m ((c : Thread nD τ).loc main_arg2)))
        Cert.Reference5Ideal.Gen.slices_S32768x4096_S32768x2048_0_2048 (((cfg0.win 5).blk t).view.emb y) := by
  rw [half_at, slice_right, both_at]
  exact congrArg₂ (· + ·) (Finset.sum_congr rfl fun k _ => congrArg₂ (· * ·) (rows_at m c t y k) (cols_right m c t y k)) (bias_right m c t y)

/-- The call's result is the reference's gated product. -/
theorem final (c : Dev nD) : (dats m 0 c).arrAt 5 (cfgs 0).N
    = gated (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_eq]
  exact gate_at _ _ _ y _ (left_at m c t y) (right_at m c t y)

end Cert.Kernel5Ideal.Glu

end
-- ==== Proof.Wo.lean ====
/- The output projection with its norms: the kernel's stream is the reference's. -/
module

public import proofs.«01_k».proof.Proof.Gen.Kernel6Ideal.Frame
public import proofs.«01_k».proof.Proof.Gen.Reference6Ideal
public import Idealize.ShloMosaic.Lib.Pipeline.ValueKit
public import Idealize.ShloMosaic.Lib.StableHlo.Run

@[expose] public section

set_option maxRecDepth 16384

noncomputable section

namespace Cert.Kernel6Ideal.Wo

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference6Ideal.S2048 .f32) : FVec Ideal Cert.Reference6Ideal.S32768x2048 .f32 :=
  broadcastInDim Cert.Reference6Ideal.S32768x2048 ![0, 1] Cert.Reference6Ideal.Gen.bcast_S1x2048_S32768x2048_0_1 (broadcastInDim Cert.Reference6Ideal.S1x2048 ![1] Cert.Reference6Ideal.Gen.bcast_S2048_S1x2048_1 g)

/-- The reciprocal root of the rows' mean squares. -/
abbrev scale (y : FVec Ideal Cert.Reference6Ideal.S32768x2048 .f32) : FVec Ideal Cert.Reference6Ideal.S32768x1 .f32 :=
  Host.rsqrt (addf (Host.divf (broadcastInDim Cert.Reference6Ideal.S32768x1 ![0] Cert.Reference6Ideal.Gen.bcast_S32768_S32768x1_0
      (Host.reduceAdd (mulf y y) (constant Cert.Reference6Ideal.S_ .f32 0x00000000#32) Cert.Reference6Ideal.Gen.reducesTo_S32768x2048_S32768_d1 Cert.Reference6Ideal.Gen.h_S_))
    (broadcastInDim Cert.Reference6Ideal.S32768x1 ![] Cert.Reference6Ideal.Gen.bcast_S_S32768x1 (constant Cert.Reference6Ideal.S_ .f32 0x45000000#32)))
    (broadcastInDim Cert.Reference6Ideal.S32768x1 ![] Cert.Reference6Ideal.Gen.bcast_S_S32768x1 (constant Cert.Reference6Ideal.S_ .f32 0x358637BD#32)))

/-- The rows normed by their mean squares, times the gains. -/
abbrev normed (y : FVec Ideal Cert.Reference6Ideal.S32768x2048 .f32) (g : FVec Ideal Cert.Reference6Ideal.S2048 .f32) : FVec Ideal Cert.Reference6Ideal.S32768x2048 .f32 :=
  mulf (mulf y (broadcastInDim Cert.Reference6Ideal.S32768x2048 ![0, 1] Cert.Reference6Ideal.Gen.bcast_S32768x1_S32768x2048_0_1 (scale y))) (gains g)

/-- The mixer's output before the norm. -/
abbrev mixed (x : FVec Ideal Cert.Reference6Ideal.S32768x2048 .bf16) (w : FVec Ideal Cert.Reference6Ideal.S2048x2048 .f32) : FVec Ideal Cert.Reference6Ideal.S32768x2048 .f32 :=
  Host.dotGeneral Cert.Reference6Ideal.dot_S32768x2048_S2048x2048_S32768x2048_1_0_0_1_n_n none (extf .f32 x Cert.Reference6Ideal.Gen.bitsLt_bf16_f32) w

/-- The stream after the mixer: the stream before, plus the normed output. -/
abbrev stream (x : FVec Ideal Cert.Reference6Ideal.S32768x2048 .bf16) (w : FVec Ideal Cert.Reference6Ideal.S2048x2048 .f32) (h : FVec Ideal Cert.Reference6Ideal.S32768x2048 .f32) (g : FVec Ideal Cert.Reference6Ideal.S2048 .f32) : FVec Ideal Cert.Reference6Ideal.S32768x2048 .f32 :=
  addf h (normed (mixed x w) g)

/-- The stream after the mixer, normed for the next sublayer. -/
abbrev next (x : FVec Ideal Cert.Reference6Ideal.S32768x2048 .bf16) (w : FVec Ideal Cert.Reference6Ideal.S2048x2048 .f32) (h : FVec Ideal Cert.Reference6Ideal.S32768x2048 .f32) (g gn : FVec Ideal Cert.Reference6Ideal.S2048 .f32) : FVec Ideal Cert.Reference6Ideal.S32768x2048 .bf16 :=
  truncf .bf16 (normed (stream x w h g) gn) Cert.Reference6Ideal.Gen.bitsLt_bf16_f32

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] :=
  (by decide +kernel : ∀ t : Fin grid0.N, _)

theorem point_stream (c : Dev nD) (t : Fin cfg0.N) (y) : k0_pay1 (iblk m c 0 t) (iblk m c 1 t) (iblk m c 2 t) (iblk m c 3 t) y
    = stream (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, stream, mixed, normed, scale, gains]
  blk_point [iblk, V, idx t]

theorem point_next (c : Dev nD) (t : Fin cfg0.N) (y) : k0_pay2 (iblk m c 0 t) (iblk m c 1 t) (iblk m c 2 t) (iblk m c 3 t) (iblk m c 4 t) y
    = next (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, next, stream, mixed, normed, scale, gains]
  blk_point [iblk, V, idx t]

/-- The call's first result is the reference's stream. -/
theorem final_stream (c : Dev nD) : (dats m 0 c).arrAt 5 (cfgs 0).N = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_stream m c t y

/-- The call's second result is the reference's normed stream. -/
theorem final_next (c : Dev nD) : (dats m 0 c).arrAt 6 (cfgs 0).N = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_next m c t y

end Cert.Kernel6Ideal.Wo

end
-- ==== Proof.QProj.lean ====
/- The query projection: the kernel's product is the reference's. -/
module

public import proofs.«01_k».proof.Proof.Gen.Kernel7Ideal.Frame
public import proofs.«01_k».proof.Proof.Gen.Reference7Ideal
public import Idealize.ShloMosaic.Lib.Pipeline.ValueKit
public import Idealize.ShloMosaic.Lib.StableHlo.Run

@[expose] public section

set_option maxRecDepth 16384

noncomputable section

namespace Cert.Kernel7Ideal.QProj

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The query columns of the product. -/
abbrev queries (x : FVec Ideal Cert.Reference7Ideal.S32768x2048 .bf16) (w : FVec Ideal Cert.Reference7Ideal.S2048x2096 .f32) : FVec Ideal Cert.Reference7Ideal.S32768x2048 .f32 :=
  extractStridedSlice Cert.Reference7Ideal.S32768x2048 ![0, 0] (Host.dotGeneral Cert.Reference7Ideal.dot_S32768x2048_S2048x2096_S32768x2096_1_0_0_1_n_n none (extf .f32 x Cert.Reference7Ideal.Gen.bitsLt_bf16_f32) w) Cert.Reference7Ideal.Gen.slices_S32768x2096_S32768x2048_0_0

theorem idx : ∀ t : Fin cfg0.N, win0_0.index t = ![t.val, 0] ∧ win0_1.index t = ![0, 0] ∧ win0_2.index t = ![t.val, 0] :=
  (by decide +kernel : ∀ t : Fin grid0.N, _)

/-- What the body stores at a place of point `t`'s block is the reference at the array index there. -/
theorem point (c : Dev nD) (t : Fin cfg0.N) (y) : k0_pay1 (iblk m c 0 t) (iblk m c 1 t) y
    = queries (m ((c : Thread nD τ).loc main_arg0)) (m ((c : Thread nD τ).loc main_arg1)) (((cfg0.win 2).blk t).view.emb y) := by
  pointwise [k0_pay1, queries]
  blk_point [iblk, V, idx t]

/-- The call's result is the reference's. -/
theorem final (c : Dev nD) : (dats m 0 c).arrAt 2 (cfgs 0).N = queries (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel7Ideal.QProj

end
-- ==== Proof.PreNorm.lean ====
/- The first norm: the kernel's normed stream is the reference's. -/
module

public import proofs.«01_k».proof.Proof.Gen.Kernel8Ideal.Frame
public import proofs.«01_k».proof.Proof.Gen.Reference8Ideal
public import Idealize.ShloMosaic.Lib.Pipeline.ValueKit
public import Idealize.ShloMosaic.Lib.StableHlo.Run

@[expose] public section

set_option maxRecDepth 16384

noncomputable section

namespace Cert.Kernel8Ideal.PreNorm

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference8Ideal.S2048 .f32) : FVec Ideal Cert.Reference8Ideal.S32768x2048 .f32 :=
  broadcastInDim Cert.Reference8Ideal.S32768x2048 ![0, 1] Cert.Reference8Ideal.Gen.bcast_S1x2048_S32768x2048_0_1 (broadcastInDim Cert.Reference8Ideal.S1x2048 ![1] Cert.Reference8Ideal.Gen.bcast_S2048_S1x2048_1 g)

/-- The reciprocal root of the rows' mean squares. -/
abbrev scale (y : FVec Ideal Cert.Reference8Ideal.S32768x2048 .f32) : FVec Ideal Cert.Reference8Ideal.S32768x1 .f32 :=
  Host.rsqrt (addf (Host.divf (broadcastInDim Cert.Reference8Ideal.S32768x1 ![0] Cert.Reference8Ideal.Gen.bcast_S32768_S32768x1_0
      (Host.reduceAdd (mulf y y) (constant Cert.Reference8Ideal.S_ .f32 0x00000000#32) Cert.Reference8Ideal.Gen.reducesTo_S32768x2048_S32768_d1 Cert.Reference8Ideal.Gen.h_S_))
    (broadcastInDim Cert.Reference8Ideal.S32768x1 ![] Cert.Reference8Ideal.Gen.bcast_S_S32768x1 (constant Cert.Reference8Ideal.S_ .f32 0x45000000#32)))
    (broadcastInDim Cert.Reference8Ideal.S32768x1 ![] Cert.Reference8Ideal.Gen.bcast_S_S32768x1 (constant Cert.Reference8Ideal.S_ .f32 0x358637BD#32)))

/-- The rows normed by their mean squares, times the gains. -/
abbrev normed (y : FVec Ideal Cert.Reference8Ideal.S32768x2048 .f32) (g : FVec Ideal Cert.Reference8Ideal.S2048 .f32) : FVec Ideal Cert.Reference8Ideal.S32768x2048 .f32 :=
  mulf (mulf y (broadcastInDim Cert.Reference8Ideal.S32768x2048 ![0, 1] Cert.Reference8Ideal.Gen.bcast_S32768x1_S32768x2048_0_1 (scale y))) (gains g)

/-- The stream normed by its rows' mean squares, times the gains. -/
abbrev first (x : FVec Ideal Cert.Reference8Ideal.S32768x2048 .f32) (g : FVec Ideal Cert.Reference8Ideal.S2048 .f32) : FVec Ideal Cert.Reference8Ideal.S32768x2048 .bf16 :=
  truncf .bf16 (normed x g) Cert.Reference8Ideal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, _)

/-- What the body stores at a place of point `t`'s block is the reference at the array index there. -/
theorem point (c : Dev nD) (t : Fin cfg0.N) (y) : k0_pay1 (iblk m c 0 t) (iblk m c 1 t) y
    = first (m ((c : Thread nD τ).loc main_arg0)) (m ((c : Thread nD τ).loc main_arg1)) (((cfg0.win 2).blk t).view.emb y) := by
  pointwise [k0_pay1, first, normed, scale, gains]
  blk_point [iblk, V, idx t]

/-- The call's result is the reference's. -/
theorem final (c : Dev nD) : (dats m 0 c).arrAt 2 (cfgs 0).N = first (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.PreNorm

end
-- ==== Proof.GateProj.lean ====
/- The gates: the kernel's sigmoid of the gate columns is the reference's. -/
module

public import proofs.«01_k».proof.Proof.Gen.Kernel9Ideal.Frame
public import proofs.«01_k».proof.Proof.Gen.Reference9Ideal
public import Idealize.ShloMosaic.Lib.Pipeline.ValueKit
public import Idealize.ShloMosaic.Lib.StableHlo.Run

@[expose] public section

set_option maxRecDepth 16384

noncomputable section

namespace Cert.Kernel9Ideal.GateProj

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The number one at every place. -/
abbrev ones : FVec Ideal Cert.Reference9Ideal.S32768x128 .f32 := broadcastInDim Cert.Reference9Ideal.S32768x128 ![] Cert.Reference9Ideal.Gen.bcast_S_S32768x128 (constant Cert.Reference9Ideal.S_ .f32 0x3F800000#32)

/-- The sigmoid of the gate columns of the product, padded with zeros. -/
abbrev gates (x : FVec Ideal Cert.Reference9Ideal.S32768x2048 .bf16) (w : FVec Ideal Cert.Reference9Ideal.S2048x2096 .f32) : FVec Ideal Cert.Reference9Ideal.S32768x128 .f32 :=
  Host.divf ones (addf ones (Host.exp (Host.negf (pad Cert.Reference9Ideal.S32768x128 ![0, 0] ![0, 80] ![0, 0] (extractStridedSlice Cert.Reference9Ideal.S32768x48 ![0, 2048] (Host.dotGeneral Cert.Reference9Ideal.dot_S32768x2048_S2048x2096_S32768x2096_1_0_0_1_n_n none (extf .f32 x Cert.Reference9Ideal.Gen.bitsLt_bf16_f32) w) Cert.Reference9Ideal.Gen.slices_S32768x2096_S32768x48_0_2048) (sitofp .f32 (constantI Cert.Reference9Ideal.S_ 32 0#32)) Cert.Reference9Ideal.Gen.pads_S32768x48_S32768x128_000_0800 Cert.Reference9Ideal.Gen.h_S_))))

/-- The kernel's gate weights: the last 48 columns of the weights, with columns of zeros behind. -/
abbrev padded (w : FVec Ideal S2048x2096 .f32) : FVec Ideal S2048x128 .bf16 :=
  truncf .bf16 (pad S2048x128 ![0, 0] ![0, 80] ![0, 0] (extractStridedSlice S2048x48 ![0, 2048] w slices_S2048x2096_S2048x48_0_2048)
    (sitofp .f32 (constantI S_ 32 0#32)) pads_S2048x48_S2048x128_000_0800 h_S_) bitsLt_bf16_f32

/-- The kernel reads its weights from that array. -/
theorem weights (c : Dev nD) : V m c main_v2 = padded (m ((c : Thread nD τ).loc main_arg1)) := rfl

/-- The integer zero as a real. -/
theorem zero_cast : (FloatOps.sitofp .f32 (0#32) : Ideal .f32) = 0 := by
  show (((0#32 : BitVec 32).toInt : ℝ) : EReal) = 0
  simp

/-- A place of the padded weights. -/
theorem padded_at (w : FVec Ideal S2048x2096 .f32) (i : S2048x128.Idx) : padded w i
    = if h : (i 1).val < 48 then w (ix2 (i 0) ⟨2048 + (i 1).val, by omega⟩) else 0 := by
  pointwise [padded]
  rw [zero_cast]

/-- A gate column of the kernel's weights is a column of the whole weights. -/
theorem weight_gate (c : Dev nD) (j : S2048x128.Idx) (k : Fin 2048) (n : Fin 2096) (h : (j 1).val < 48) (hk : (j 0).val = k.val)
    (hn : 2048 + (j 1).val = n.val) : V m c main_v2 j = m ((c : Thread nD τ).loc main_arg1) (ix2 k n) := by
  rw [weights]
  refine (padded_at _ j).trans ?_
  rw [dif_pos h, show n = ⟨2048 + (j 1).val, by omega⟩ from Fin.ext hn.symm, show k = j 0 from Fin.ext hk.symm]

/-- Behind them it is zero. -/
theorem weight_zero (c : Dev nD) (j : S2048x128.Idx) (h : ¬(j 1).val < 48) : V m c main_v2 j = (0 : Ideal .bf16) := by
  rw [weights]
  refine (padded_at _ j).trans ?_
  rw [dif_neg h]

/-- Which block each window takes at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of point `t`'s block is the reference at the array index there. -/
theorem point (c : Dev nD) (t : Fin cfg0.N) (y) : k0_pay1 (iblk m c 0 t) (iblk m c 1 t) y
    = gates (m ((c : Thread nD τ).loc main_arg0)) (m ((c : Thread nD τ).loc main_arg1)) (((cfg0.win 2).blk t).view.emb y) := by
  pointwise [k0_pay1, gates, ones]
  blk_point [iblk, V, idx t]
  by_cases h : (y 1).val < 48
  · rw [dif_pos h, zero_sub]
    refine congrArg (fun s => Ideal.exp (-s)) (Finset.sum_congr rfl fun k _ => congrArg₂ (· * ·) ?_ ?_)
    · blk_point [iblk, V, idx t]
    · refine weight_gate m c _ _ _ ?_ ?_ ?_
      · blk_simp [idx t]
        exact h
      · blk_simp [idx t]
      · blk_simp [idx t]
  · rw [dif_neg h, zero_cast, zero_sub]
    refine congrArg (fun s => Ideal.exp (-s)) (Finset.sum_eq_zero fun k _ => ?_)
    rw [weight_zero m c]
    · exact mul_zero _
    · blk_simp [idx t]
      exact h

/-- The call's result is the reference's. -/
theorem final (c : Dev nD) : (dats m 0 c).arrAt 2 (cfgs 0).N = gates (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.GateProj

end
-- ==== Proof.KvProj.lean ====
/- The key/value projection: the kernel's columns are the reference's. -/
module

public import proofs.«01_k».proof.Proof.Gen.Kernel10Ideal.Frame
public import proofs.«01_k».proof.Proof.Gen.Reference10Ideal
public import Idealize.ShloMosaic.Lib.Pipeline.ValueKit
public import Idealize.ShloMosaic.Lib.StableHlo.Run

@[expose] public section

set_option maxRecDepth 16384

noncomputable section

namespace Cert.Kernel10Ideal.KvProj

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The product with the key and value weights. -/
abbrev product (x : FVec Ideal Cert.Reference10Ideal.S32768x2048 .bf16) (w : FVec Ideal Cert.Reference10Ideal.S2048x3072 .f32) : FVec Ideal Cert.Reference10Ideal.S32768x3072 .f32 :=
  Host.dotGeneral Cert.Reference10Ideal.dot_S32768x2048_S2048x3072_S32768x3072_1_0_0_1_n_n none (extf .f32 x Cert.Reference10Ideal.Gen.bitsLt_bf16_f32) w

/-- The first three and the fifth of its six column groups, side by side. -/
abbrev parts (x : FVec Ideal Cert.Reference10Ideal.S32768x2048 .bf16) (w : FVec Ideal Cert.Reference10Ideal.S2048x3072 .f32) : FVec Ideal Cert.Reference10Ideal.S32768x2048 .f32 :=
  concatenate Cert.Reference10Ideal.S32768x2048 1
    [⟨Cert.Reference10Ideal.S32768x512, extractStridedSlice Cert.Reference10Ideal.S32768x512 ![0, 0] (product x w) Cert.Reference10Ideal.Gen.slices_S32768x3072_S32768x512_0_0⟩,
      ⟨Cert.Reference10Ideal.S32768x512, extractStridedSlice Cert.Reference10Ideal.S32768x512 ![0, 512] (product x w) Cert.Reference10Ideal.Gen.slices_S32768x3072_S32768x512_0_512⟩,
      ⟨Cert.Reference10Ideal.S32768x512, extractStridedSlice Cert.Reference10Ideal.S32768x512 ![0, 1024] (product x w) Cert.Reference10Ideal.Gen.slices_S32768x3072_S32768x512_0_1024⟩,
      ⟨Cert.Reference10Ideal.S32768x512, extractStridedSlice Cert.Reference10Ideal.S32768x512 ![0, 2048] (product x w) Cert.Reference10Ideal.Gen.slices_S32768x3072_S32768x512_0_2048⟩]
    Cert.Reference10Ideal.Gen.concatenates_S32768x512_S32768x512_S32768x512_S32768x512_S32768x2048_d1

/-- The kernel's weights: the same column groups, side by side. -/
abbrev joined (w : FVec Ideal S2048x3072 .f32) : FVec Ideal S2048x2048 .bf16 :=
  truncf .bf16 (concatenate S2048x2048 1
    [⟨S2048x512, extractStridedSlice S2048x512 ![0, 0] w slices_S2048x3072_S2048x512_0_0⟩,
      ⟨S2048x512, extractStridedSlice S2048x512 ![0, 512] w slices_S2048x3072_S2048x512_0_512⟩,
      ⟨S2048x512, extractStridedSlice S2048x512 ![0, 1024] w slices_S2048x3072_S2048x512_0_1024⟩,
      ⟨S2048x512, extractStridedSlice S2048x512 ![0, 2048] w slices_S2048x3072_S2048x512_0_2048⟩]
    concatenates_S2048x512_S2048x512_S2048x512_S2048x512_S2048x2048_d1) bitsLt_bf16_f32

/-- The kernel reads its weights from that array. -/
theorem weights (c : Dev nD) : V m c main_v5 = joined (m ((c : Thread nD τ).loc main_arg1)) := rfl

/-- The column of the whole weights that a column of the joined ones is. -/
def column (k : ℕ) : ℕ := if k < 1536 then k else k + 512

theorem column_lt (k : Fin 2048) : column k < 3072 := by unfold column; split <;> omega

/-- A place of the joined weights. -/
theorem joined_at (w : FVec Ideal S2048x3072 .f32) (i : S2048x2048.Idx) : joined w i = w (ix2 (i 0) ⟨column (i 1), column_lt _⟩) := by
  pointwise [joined]
  have h : (i 1).val < 2048 := (i 1).isLt
  split_ifs <;> refine congrArg (fun k => w (ix2 (i 0) k)) (Fin.ext ?_) <;> simp only [column] <;> split <;> omega

/-- A place of the joined column groups of the product. -/
theorem parts_at (x w) (i : Cert.Reference10Ideal.S32768x2048.Idx) : parts x w i = product x w (ix2 (i 0) ⟨column (i 1), column_lt _⟩) := by
  pointwise [parts]
  have h : (i 1).val < 2048 := (i 1).isLt
  split_ifs <;> refine congrArg (fun k => ∑ n, x (ix2 (i 0) n) * w (ix2 n k)) (Fin.ext ?_) <;> simp only [column] <;> split <;> omega

/-- A read of the kernel's weights is a read of the whole weights. -/
theorem weight_read (c : Dev nD) (j : S2048x2048.Idx) (k : Fin 2048) (n : Fin 3072) (hk : (j 0).val = k.val)
    (hn : column (j 1).val = n.val) : V m c main_v5 j = m ((c : Thread nD τ).loc main_arg1) (ix2 k n) := by
  rw [weights]
  refine (joined_at _ j).trans ?_
  rw [show n = ⟨column (j 1).val, column_lt _⟩ from Fin.ext hn.symm, show k = j 0 from Fin.ext hk.symm]

/-- Which block each window takes at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of point `t`'s block is the reference at the array index there. -/
theorem point (c : Dev nD) (t : Fin cfg0.N) (y) : k0_pay1 (iblk m c 0 t) (iblk m c 1 t) y
    = parts (m ((c : Thread nD τ).loc main_arg0)) (m ((c : Thread nD τ).loc main_arg1)) (((cfg0.win 2).blk t).view.emb y) := by
  rw [parts_at]
  pointwise [k0_pay1, product]
  refine Finset.sum_congr rfl fun k _ => congrArg₂ (· * ·) ?_ ?_
  · blk_point [iblk, V, idx t]
  · refine weight_read m c _ _ _ ?_ ?_
    · blk_simp [idx t]
    · blk_simp [idx t]

/-- The call's result is the reference's. -/
theorem final (c : Dev nD) : (dats m 0 c).arrAt 2 (cfgs 0).N = parts (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.KvProj

end
-- ==== Proof.Down1.lean ====
/- The MLP down-projection with its norms, in a layer that another follows, where the stream is normed for it: the kernel's results are the
   reference's. -/
module

public import proofs.«01_k».proof.Proof.Gen.Kernel11Ideal.Frame
public import proofs.«01_k».proof.Proof.Gen.Reference11Ideal
public import Idealize.ShloMosaic.Lib.Pipeline.ValueKit
public import Idealize.ShloMosaic.Lib.StableHlo.Run

@[expose] public section

set_option maxRecDepth 16384

noncomputable section

namespace Cert.Kernel11Ideal.Down1

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference11Ideal.S2048 .f32) : FVec Ideal Cert.Reference11Ideal.S32768x2048 .f32 :=
  broadcastInDim Cert.Reference11Ideal.S32768x2048 ![0, 1] Cert.Reference11Ideal.Gen.bcast_S1x2048_S32768x2048_0_1 (broadcastInDim Cert.Reference11Ideal.S1x2048 ![1] Cert.Reference11Ideal.Gen.bcast_S2048_S1x2048_1 g)

/-- The reciprocal root of the rows' mean squares. -/
abbrev scale (y : FVec Ideal Cert.Reference11Ideal.S32768x2048 .f32) : FVec Ideal Cert.Reference11Ideal.S32768x1 .f32 :=
  Host.rsqrt (addf (Host.divf (broadcastInDim Cert.Reference11Ideal.S32768x1 ![0] Cert.Reference11Ideal.Gen.bcast_S32768_S32768x1_0
      (Host.reduceAdd (mulf y y) (constant Cert.Reference11Ideal.S_ .f32 0x00000000#32) Cert.Reference11Ideal.Gen.reducesTo_S32768x2048_S32768_d1 Cert.Reference11Ideal.Gen.h_S_))
    (broadcastInDim Cert.Reference11Ideal.S32768x1 ![] Cert.Reference11Ideal.Gen.bcast_S_S32768x1 (constant Cert.Reference11Ideal.S_ .f32 0x45000000#32)))
    (broadcastInDim Cert.Reference11Ideal.S32768x1 ![] Cert.Reference11Ideal.Gen.bcast_S_S32768x1 (constant Cert.Reference11Ideal.S_ .f32 0x358637BD#32)))

/-- The rows normed by their mean squares, times the gains. -/
abbrev normed (y : FVec Ideal Cert.Reference11Ideal.S32768x2048 .f32) (g : FVec Ideal Cert.Reference11Ideal.S2048 .f32) : FVec Ideal Cert.Reference11Ideal.S32768x2048 .f32 :=
  mulf (mulf y (broadcastInDim Cert.Reference11Ideal.S32768x2048 ![0, 1] Cert.Reference11Ideal.Gen.bcast_S32768x1_S32768x2048_0_1 (scale y))) (gains g)

/-- The reference's down-projection. -/
def projected (x : FVec Ideal Cert.Reference11Ideal.S32768x8192 .bf16) (w : FVec Ideal Cert.Reference11Ideal.S8192x2048 .f32) : FVec Ideal Cert.Reference11Ideal.S32768x2048 .f32 :=
  Host.dotGeneral Cert.Reference11Ideal.dot_S32768x8192_S8192x2048_S32768x2048_1_0_0_1_n_n none (extf .f32 x Cert.Reference11Ideal.Gen.bitsLt_bf16_f32) w

/-- The stream after the MLP: the stream before, plus the normed projection. -/
abbrev stream (x : FVec Ideal Cert.Reference11Ideal.S32768x8192 .bf16) (w : FVec Ideal Cert.Reference11Ideal.S8192x2048 .f32) (h : FVec Ideal Cert.Reference11Ideal.S32768x2048 .f32) (g : FVec Ideal Cert.Reference11Ideal.S2048 .f32) : FVec Ideal Cert.Reference11Ideal.S32768x2048 .f32 :=
  addf h (normed (projected x w) g)

/-- The stream after the MLP, normed with the next gains. -/
abbrev next (x : FVec Ideal Cert.Reference11Ideal.S32768x8192 .bf16) (w : FVec Ideal Cert.Reference11Ideal.S8192x2048 .f32) (h : FVec Ideal Cert.Reference11Ideal.S32768x2048 .f32) (g : FVec Ideal Cert.Reference11Ideal.S2048 .f32) (gn : FVec Ideal Cert.Reference11Ideal.S2048 .f32) : FVec Ideal Cert.Reference11Ideal.S32768x2048 .bf16 :=
  truncf .bf16 (normed (stream x w h g) gn) Cert.Reference11Ideal.Gen.bitsLt_bf16_f32

/-- Which block each window takes at a grid point. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0]
    ∧ win0_5.index t = ![t.val / 4, 0] ∧ win0_6.index t = ![t.val / 4, 0] :=
  (by decide +kernel : ∀ t : Fin grid0.N, _)

/-- The accumulator starts at zero. -/
theorem cleared (j) : k0_pay1 (F := Ideal) j = 0 := by pointwise [k0_pay1]

/-- A step adds one block's product to the accumulator. -/
theorem stepped (a : FVec Ideal S512x2048 .f32) (x : FVec Ideal S512x2048 .bf16) (w : FVec Ideal S2048x2048 .bf16) (j) :
    k0_pay2 a x w j = a j + ∑ k : Fin 2048, x (ix2 (j 0) k) * w (ix2 k (j 1)) := by pointwise [k0_pay2]

/-- The projection as one sum. -/
theorem projected_at (x : FVec Ideal Cert.Reference11Ideal.S32768x8192 .bf16) (w : FVec Ideal Cert.Reference11Ideal.S8192x2048 .f32) (j) :
    projected x w j = ∑ k : Fin 8192, x (ix2 (j 0) k) * w (ix2 k (j 1)) := by pointwise [projected]

/-- At a row block's last point the accumulator holds the whole projection. -/
theorem gathered (c : Dev nD) (t : Fin cfg0.N) (hf : t.val % 4 = 3) (j) : (outsAt0 m c t.val t.isLt).2.2  j
    = projected (m ((c : Thread nD τ).loc main_arg0)) (m ((c : Thread nD τ).loc main_arg1)) (((cfg0.win 5).blk t).view.emb j) := by
  rw [Pipeline.eq_sum_fin_of_reset_step_apply_of_flush (fun n h => (outsAt0 m c n h).2.2) 4 (fun _ => 0) _
    (fun t h j => by rw [outsAt0_A m c t h (by omega)]; frame_out; rw [stepped, cleared])
    (fun t h j => by
      by_cases h1 : t.val % 4 = 3
      · rw [outsAt0_C m c t h h1]; frame_out; erw [Memref.IsWhole.read_unread]; rw [stepped]
      · rw [outsAt0_B m c t h h1]; frame_out; erw [Memref.IsWhole.read_unread]; rw [stepped])
    t hf j, zero_add, projected_at]
  refine Fin.sum_mul_add_congr fun s k hl => ?_
  blk_point [iblk, V, idx t, idx ⟨_, Pipeline.run_point_lt_of_flush t hf s⟩]

/-- The call's first result is the reference's stream. -/
theorem final_stream (c : Dev nD) : (dats m 0 c).arrAt 5 (cfgs 0).N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h : t.val % 4 = 3 := (flush0_5 t).mp hf
  have hg := gathered m c t h
  blk_simp
  rw [after0_5, outsAt0_C m c t (by omega) h]
  rw [outsAt0_C m c t (by omega) h] at hg
  revert hg
  frame_out
  intro hg
  generalize k0_pay2 (F := Ideal) _ _ _ = p at hg ⊢
  pointwise [k0_pay3, stream, normed, scale, gains]
  simp only [hg]
  blk_point [iblk, V, idx t]

/-- The call's second result is the reference's normed stream. -/
theorem final_next (c : Dev nD) : (dats m 0 c).arrAt 6 (cfgs 0).N
    = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h : t.val % 4 = 3 := (flush0_6 t).mp hf
  have hg := gathered m c t h
  blk_simp
  rw [after0_6, outsAt0_C m c t (by omega) h]
  rw [outsAt0_C m c t (by omega) h] at hg
  revert hg
  frame_out
  intro hg
  generalize k0_pay2 (F := Ideal) _ _ _ = p at hg ⊢
  pointwise [k0_pay4, k0_pay3, next, stream, normed, scale, gains]
  simp only [hg]
  blk_point [iblk, V, idx t]

end Cert.Kernel11Ideal.Down1

end
-- ==== Proof.Down2.lean ====
/- The MLP down-projection with its norms, in the layer before the shared keys and values, where the stream is normed for two readers: the kernel's results are the
   reference's. -/
module

public import proofs.«01_k».proof.Proof.Gen.Kernel12Ideal.Frame
public import proofs.«01_k».proof.Proof.Gen.Reference12Ideal
public import Idealize.ShloMosaic.Lib.Pipeline.ValueKit
public import Idealize.ShloMosaic.Lib.StableHlo.Run

@[expose] public section

set_option maxRecDepth 16384

noncomputable section

namespace Cert.Kernel12Ideal.Down2

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- A row of gains at every row. -/
abbrev gains (g : FVec Ideal Cert.Reference12Ideal.S2048 .f32) : FVec Ideal Cert.Reference12Ideal.S32768x2048 .f32 :=
  broadcastInDim Cert.Reference12Ideal.S32768x2048 ![0, 1] Cert.Reference12Ideal.Gen.bcast_S1x2048_S32768x2048_0_1 (broadcastInDim Cert.Reference12Ideal.S1x2048 ![1] Cert.Reference12Ideal.Gen.bcast_S2048_S1x2048_1 g)

/-- The reciprocal root of the rows' mean squares. -/
abbrev scale (y : FVec Ideal Cert.Reference12Ideal.S32768x2048 .f32) : FVec Ideal Cert.Reference12Ideal.S32768x1 .f32 :=
  Host.rsqrt (addf (Host.divf (broadcastInDim Cert.Reference12Ideal.S32768x1 ![0] Cert.Reference12Ideal.Gen.bcast_S32768_S32768x1_0
      (Host.reduceAdd (mulf y y) (constant Cert.Reference12Ideal.S_ .f32 0x00000000#32) Cert.Reference12Ideal.Gen.reducesTo_S32768x2048_S32768_d1 Cert.Reference12Ideal.Gen.h_S_))
    (broadcastInDim Cert.Reference12Ideal.S32768x1 ![] Cert.Reference12Ideal.Gen.bcast_S_S32768x1 (constant Cert.Reference12Ideal.S_ .f32 0x45000000#32)))
    (broadcastInDim Cert.Reference12Ideal.S32768x1 ![] Cert.Reference12Ideal.Gen.bcast_S_S32768x1 (constant Cert.Reference12Ideal.S_ .f32 0x358637BD#32)))

/-- The rows normed by their mean squares, times the gains. -/
abbrev normed (y : FVec Ideal Cert.Reference12Ideal.S32768x2048 .f32) (g : FVec Ideal Cert.Reference12Ideal.S2048 .f32) : FVec Ideal Cert.Reference12Ideal.S32768x2048 .f32 :=
  mulf (mulf y (broadcastInDim Cert.Reference12Ideal.S32768x2048 ![0, 1] Cert.Reference12Ideal.Gen.bcast_S32768x1_S32768x2048_0_1 (scale y))) (gains g)

/-- The reference's down-projection. -/
def projected (x : FVec Ideal Cert.Reference12Ideal.S32768x8192 .bf16) (w : FVec Ideal Cert.Reference12Ideal.S8192x2048 .f32) : FVec Ideal Cert.Reference12Ideal.S32768x2048 .f32 :=
  Host.dotGeneral Cert.Reference12Ideal.dot_S32768x8192_S8192x2048_S32768x2048_1_0_0_1_n_n none (extf .f32 x Cert.Reference12Ideal.Gen.bitsLt_bf16_f32) w

/-- The stream after the MLP: the stream before, plus the normed projection. -/
abbrev stream (x : FVec Ideal Cert.Reference12Ideal.S32768x8192 .bf16) (w : FVec Ideal Cert.Reference12Ideal.S8192x2048 .f32) (h : FVec Ideal Cert.Reference12Ideal.S32768x2048 .f32) (g : FVec Ideal Cert.Reference12Ideal.S2048 .f32) : FVec Ideal Cert.Reference12Ideal.S32768x2048 .f32 :=
  addf h (normed (projected x w) g)

/-- The stream after the MLP, normed with the next gains. -/
abbrev next (x : FVec Ideal Cert.Reference12Ideal.S32768x8192 .bf16) (w : FVec Ideal Cert.Reference12Ideal.S8192x2048 .f32) (h : FVec Ideal Cert.Reference12Ideal.S32768x2048 .f32) (g : FVec Ideal Cert.Reference12Ideal.S2048 .f32) (gn : FVec Ideal Cert.Reference12Ideal.S2048 .f32) : FVec Ideal Cert.Reference12Ideal.S32768x2048 .bf16 :=
  truncf .bf16 (normed (stream x w h g) gn) Cert.Reference12Ideal.Gen.bitsLt_bf16_f32

/-- The kernel's table of next gains: the two rows of gains, one above the other. -/
theorem table (c : Dev nD) : V m c main_v3 = concatenate S2x2048 0
    [⟨S1x2048, broadcastInDim S1x2048 ![1] bcast_S2048_S1x2048_1 (m ((c : Thread nD τ).loc main_arg4))⟩,
      ⟨S1x2048, broadcastInDim S1x2048 ![1] bcast_S2048_S1x2048_1 (m ((c : Thread nD τ).loc main_arg5))⟩]
    concatenates_S1x2048_S1x2048_S2x2048_d0 := rfl

/-- The table's first row. -/
theorem table_first (c : Dev nD) (j : S2x2048.Idx) (i : S2048.Idx) (h : (j 0).val = 0) (hi : (i 0).val = (j 1).val) :
    V m c main_v3 j = m ((c : Thread nD τ).loc main_arg4) i := by
  rw [table]
  pointwise []
  rw [dif_pos (by omega)]
  exact congrArg _ (funext fun a => by fin_cases a; exact Fin.ext hi.symm)

/-- The table's second row. -/
theorem table_second (c : Dev nD) (j : S2x2048.Idx) (i : S2048.Idx) (h : (j 0).val = 1) (hi : (i 0).val = (j 1).val) :
    V m c main_v3 j = m ((c : Thread nD τ).loc main_arg5) i := by
  rw [table]
  pointwise []
  rw [dif_neg (by omega)]
  exact congrArg _ (funext fun a => by fin_cases a; exact Fin.ext hi.symm)

/-- Which block each window takes at a grid point. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0]
    ∧ win0_5.index t = ![t.val / 4, 0] ∧ win0_6.index t = ![t.val / 4, 0] ∧ win0_7.index t = ![t.val / 4, 0] :=
  (by decide +kernel : ∀ t : Fin grid0.N, _)

/-- The accumulator starts at zero. -/
theorem cleared (j) : k0_pay1 (F := Ideal) j = 0 := by pointwise [k0_pay1]

/-- A step adds one block's product to the accumulator. -/
theorem stepped (a : FVec Ideal S512x2048 .f32) (x : FVec Ideal S512x2048 .bf16) (w : FVec Ideal S2048x2048 .bf16) (j) :
    k0_pay2 a x w j = a j + ∑ k : Fin 2048, x (ix2 (j 0) k) * w (ix2 k (j 1)) := by pointwise [k0_pay2]

/-- The projection as one sum. -/
theorem projected_at (x : FVec Ideal Cert.Reference12Ideal.S32768x8192 .bf16) (w : FVec Ideal Cert.Reference12Ideal.S8192x2048 .f32) (j) :
    projected x w j = ∑ k : Fin 8192, x (ix2 (j 0) k) * w (ix2 k (j 1)) := by pointwise [projected]

/-- At a row block's last point the accumulator holds the whole projection. -/
theorem gathered (c : Dev nD) (t : Fin cfg0.N) (hf : t.val % 4 = 3) (j) : (outsAt0 m c t.val t.isLt).2.2.2  j
    = projected (m ((c : Thread nD τ).loc main_arg0)) (m ((c : Thread nD τ).loc main_arg1)) (((cfg0.win 5).blk t).view.emb j) := by
  rw [Pipeline.eq_sum_fin_of_reset_step_apply_of_flush (fun n h => (outsAt0 m c n h).2.2.2) 4 (fun _ => 0) _
    (fun t h j => by rw [outsAt0_A m c t h (by omega)]; frame_out; rw [stepped, cleared])
    (fun t h j => by
      by_cases h1 : t.val % 4 = 3
      · rw [outsAt0_C m c t h h1]; frame_out; erw [Memref.IsWhole.read_unread]; rw [stepped]
      · rw [outsAt0_B m c t h h1]; frame_out; erw [Memref.IsWhole.read_unread]; rw [stepped])
    t hf j, zero_add, projected_at]
  refine Fin.sum_mul_add_congr fun s k hl => ?_
  blk_point [iblk, V, idx t, idx ⟨_, Pipeline.run_point_lt_of_flush t hf s⟩]

/-- The call's first result is the reference's stream. -/
theorem final_stream (c : Dev nD) : (dats m 0 c).arrAt 5 (cfgs 0).N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h : t.val % 4 = 3 := (flush0_5 t).mp hf
  have hg := gathered m c t h
  blk_simp
  rw [after0_5, outsAt0_C m c t (by omega) h]
  rw [outsAt0_C m c t (by omega) h] at hg
  revert hg
  frame_out
  intro hg
  generalize k0_pay2 (F := Ideal) _ _ _ = p at hg ⊢
  pointwise [k0_pay4, stream, normed, scale, gains]
  simp only [hg]
  blk_point [iblk, V, idx t]

/-- The call's second result is the reference's normed stream. -/
theorem final_next (c : Dev nD) : (dats m 0 c).arrAt 6 (cfgs 0).N
    = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h : t.val % 4 = 3 := (flush0_6 t).mp hf
  have hg := gathered m c t h
  blk_simp
  rw [after0_6, outsAt0_C m c t (by omega) h]
  rw [outsAt0_C m c t (by omega) h] at hg
  revert hg
  frame_out
  intro hg
  generalize k0_pay2 (F := Ideal) _ _ _ = p at hg ⊢
  pointwise [k0_pay6, k0_pay5, k0_pay4, next, stream, normed, scale, gains]
  simp only [hg]
  blk_point [iblk, V, idx t]
  refine table_first m c _ _ ?_ ?_
  · blk_simp [idx t]
    rfl
  · blk_simp [idx t]

/-- The call's third result is the reference's stream normed for the keys and values. -/
theorem final_kv (c : Dev nD) : (dats m 0 c).arrAt 7 (cfgs 0).N
    = next (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  have h : t.val % 4 = 3 := (flush0_7 t).mp hf
  have hg := gathered m c t h
  blk_simp
  rw [after0_7, outsAt0_C m c t (by omega) h]
  rw [outsAt0_C m c t (by omega) h] at hg
  revert hg
  frame_out
  intro hg
  generalize k0_pay2 (F := Ideal) _ _ _ = p at hg ⊢
  pointwise [k0_pay3, k0_pay7, k0_pay5, k0_pay4, next, stream, normed, scale, gains]
  simp only [hg]
  blk_point [iblk, V, idx t]
  refine table_second m c _ _ ?_ ?_
  · blk_simp [idx t]
    rfl
  · blk_simp [idx t]

end Cert.Kernel12Ideal.Down2

end
-- ==== Proof.lean ====
/- The certificate: of each call, that it runs and leaves its arguments as they were, and of each call but the
   attention, that over the reals it returns what the reference returns. -/
module

public import proofs.«01_k».proof.Defs
public import proofs.«01_k».proof.Proof.Gen.Kernel
public import proofs.«01_k».proof.Proof.Gen.KernelIdeal
public import proofs.«01_k».proof.Proof.Attn
public import proofs.«01_k».proof.Proof.Same
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Up
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Down
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Pw2
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Glu
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Wo
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.QProj
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.PreNorm
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.GateProj
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.KvProj
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Down1
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Down2

@[expose] public section

set_option maxRecDepth 16384

namespace Cert.Proof

open Idealize.ShloMosaic Idealize.ShloMosaic.TcCoe Idealize.SL.Sem

/-- The reference of the MLP's up projection with its squared rectifier runs to its end and leaves its arguments as they were. -/
theorem up_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

set_option maxHeartbeats 1600000 in
/-- Over the reals the MLP's up projection with its squared rectifier returns what its reference returns. -/
theorem up_value : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · hlo_run
    · exact (Cert.Kernel2Ideal.Up.final m c).symm

/-- The reference of the MLP's down projection with norm and residual, in the last layer runs to its end and leaves its arguments as they were. -/
theorem down_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

set_option maxHeartbeats 1600000 in
/-- Over the reals the MLP's down projection with norm and residual, in the last layer returns what its reference returns. -/
theorem down_value : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · hlo_run
    · exact (Cert.Kernel3Ideal.Down.final m c).symm

/-- The reference of the convolution module's second pointwise projection with norm, residual and next norm runs to its end and leaves its arguments as they were. -/
theorem pw2_reference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

set_option maxHeartbeats 1600000 in
/-- Over the reals the convolution module's second pointwise projection with norm, residual and next norm returns both results of its reference. -/
theorem pw2_value : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · hlo_run
    · exact (Cert.Kernel4Ideal.Pw2.final_stream m c).symm
    · exact (Cert.Kernel4Ideal.Pw2.final_next m c).symm

/-- The reference of the convolution module's gated pointwise projection runs to its end and leaves its arguments as they were. -/
theorem glu_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

set_option maxHeartbeats 1600000 in
/-- Over the reals the convolution module's gated pointwise projection returns what its reference returns. -/
theorem glu_value : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · hlo_run
    · exact (Cert.Kernel5Ideal.Glu.final m c).symm

/-- The reference of the attention's output projection with norm, residual and next norm runs to its end and leaves its arguments as they were. -/
theorem wo_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

set_option maxHeartbeats 1600000 in
/-- Over the reals the attention's output projection with norm, residual and next norm returns both results of its reference. -/
theorem wo_value : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · hlo_run
    · exact (Cert.Kernel6Ideal.Wo.final_stream m c).symm
    · exact (Cert.Kernel6Ideal.Wo.final_next m c).symm

/-- The reference of the attention's query projection runs to its end and leaves its arguments as they were. -/
theorem qproj_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

set_option maxHeartbeats 1600000 in
/-- Over the reals the attention's query projection returns what its reference returns. -/
theorem qproj_value : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g
  · hlo_run
    · exact (Cert.Kernel7Ideal.QProj.final m c).symm

/-- The reference of the first norm runs to its end and leaves its arguments as they were. -/
theorem prenorm_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

set_option maxHeartbeats 1600000 in
/-- Over the reals the first norm returns what its reference returns. -/
theorem prenorm_value : Cert.algebraic_Kernel8Ideal_Reference8Ideal (hKernel8Ideal := Cert.Kernel8Ideal.Gen.facts) (hReference8Ideal := Cert.Reference8Ideal.Gen.facts) := by
  pair_intro
  · run_from Cert.Kernel8Ideal.Gen.run_main m g
  · hlo_run
    · exact (Cert.Kernel8Ideal.PreNorm.final m c).symm

/-- The reference of the attention's gate projection runs to its end and leaves its arguments as they were. -/
theorem gateproj_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

set_option maxHeartbeats 1600000 in
/-- Over the reals the attention's gate projection returns what its reference returns. -/
theorem gateproj_value : Cert.algebraic_Kernel9Ideal_Reference9Ideal (hKernel9Ideal := Cert.Kernel9Ideal.Gen.facts) (hReference9Ideal := Cert.Reference9Ideal.Gen.facts) := by
  pair_intro
  · run_from Cert.Kernel9Ideal.Gen.run_main m g
    exact Cert.Kernel9Ideal.Gen.V_main_arg1 m c
  · hlo_run
    · exact (Cert.Kernel9Ideal.GateProj.final m c).symm

/-- The reference of the key/value projection runs to its end and leaves its arguments as they were. -/
theorem kvproj_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

set_option maxHeartbeats 1600000 in
/-- Over the reals the key/value projection returns what its reference returns. -/
theorem kvproj_value : Cert.algebraic_Kernel10Ideal_Reference10Ideal (hKernel10Ideal := Cert.Kernel10Ideal.Gen.facts) (hReference10Ideal := Cert.Reference10Ideal.Gen.facts) := by
  pair_intro
  · run_from Cert.Kernel10Ideal.Gen.run_main m g
  · run_from Cert.Reference10Ideal.Value.run m' g'
    · exact (Cert.Kernel10Ideal.KvProj.final m c).symm

/-- The reference of the MLP's down projection with norm, residual and next norm runs to its end and leaves its arguments as they were. -/
theorem down1_reference : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩)
    (Cert.Reference11Ideal.Value.run (F := Ideal) m ρ)

set_option maxHeartbeats 1600000 in
/-- Over the reals the MLP's down projection with norm, residual and next norm returns both results of its reference. -/
theorem down1_value : Cert.algebraic_Kernel11Ideal_Reference11Ideal (hKernel11Ideal := Cert.Kernel11Ideal.Gen.facts) (hReference11Ideal := Cert.Reference11Ideal.Gen.facts) := by
  pair_intro
  · run_from Cert.Kernel11Ideal.Gen.run_main m g
  · hlo_run
    · exact (Cert.Kernel11Ideal.Down1.final_stream m c).symm
    · exact (Cert.Kernel11Ideal.Down1.final_next m c).symm

/-- The reference of the MLP's down projection with norm, residual and two next norms runs to its end and leaves its arguments as they were. -/
theorem down2_reference : Cert.quiescent_Reference12Ideal (hReference12Ideal := Cert.Reference12Ideal.Gen.facts) := fun m ρ _ =>
  (θ_run Cert.Reference12Ideal.defs _ _).mono (fun r h => ⟨fun c => (h c).2.2.2, sem_eq_zero_of_no_sems (by decide) r.2⟩)
    (Cert.Reference12Ideal.Value.run (F := Ideal) m ρ)

set_option maxHeartbeats 1600000 in
/-- Over the reals the MLP's down projection with norm, residual and two next norms returns the three results of its reference. -/
theorem down2_value : Cert.algebraic_Kernel12Ideal_Reference12Ideal (hKernel12Ideal := Cert.Kernel12Ideal.Gen.facts) (hReference12Ideal := Cert.Reference12Ideal.Gen.facts) := by
  pair_intro
  · run_from Cert.Kernel12Ideal.Gen.run_main m g
  · hlo_run
    · exact (Cert.Kernel12Ideal.Down2.final_stream m c).symm
    · exact (Cert.Kernel12Ideal.Down2.final_next m c).symm
    · exact (Cert.Kernel12Ideal.Down2.final_kv m c).symm

theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Same.frame,
  fun m ρ _ => Cert.KernelIdeal.Attn.frame m ρ,
  fun m ρ _ => Cert.Kernel2.Gen.frame m ρ,
  fun m ρ _ => Cert.Kernel2Ideal.Gen.frame m ρ,
  up_reference,
  fun m ρ _ => Cert.Kernel3.Gen.frame m ρ,
  fun m ρ _ => Cert.Kernel3Ideal.Gen.frame m ρ,
  down_reference,
  fun m ρ _ => Cert.Kernel4.Gen.frame m ρ,
  fun m ρ _ => Cert.Kernel4Ideal.Gen.frame m ρ,
  pw2_reference,
  fun m ρ _ => Cert.Kernel5.Gen.frame m ρ,
  fun m ρ _ => Cert.Kernel5Ideal.Gen.frame m ρ,
  glu_reference,
  fun m ρ _ => Cert.Kernel6.Gen.frame m ρ,
  fun m ρ _ => Cert.Kernel6Ideal.Gen.frame m ρ,
  wo_reference,
  fun m ρ _ => Cert.Kernel7.Gen.frame m ρ,
  fun m ρ _ => Cert.Kernel7Ideal.Gen.frame m ρ,
  qproj_reference,
  fun m ρ _ => Cert.Kernel8.Gen.frame m ρ,
  fun m ρ _ => Cert.Kernel8Ideal.Gen.frame m ρ,
  prenorm_reference,
  fun m ρ _ => Cert.Kernel9.Gen.frame m ρ,
  fun m ρ _ => Cert.Kernel9Ideal.Gen.frame m ρ,
  gateproj_reference,
  fun m ρ _ => Cert.Kernel10.Gen.frame m ρ,
  fun m ρ _ => Cert.Kernel10Ideal.Gen.frame m ρ,
  kvproj_reference,
  fun m ρ _ => Cert.Kernel11.Gen.frame m ρ,
  fun m ρ _ => Cert.Kernel11Ideal.Gen.frame m ρ,
  down1_reference,
  fun m ρ _ => Cert.Kernel12.Gen.frame m ρ,
  fun m ρ _ => Cert.Kernel12Ideal.Gen.frame m ρ,
  down2_reference,
  trivial,
  trivial,
  up_value,
  trivial,
  down_value,
  trivial,
  pw2_value,
  trivial,
  glu_value,
  trivial,
  wo_value,
  trivial,
  qproj_value,
  trivial,
  prenorm_value,
  trivial,
  gateproj_value,
  trivial,
  kvproj_value,
  trivial,
  down1_value,
  trivial,
  down2_value⟩

end Cert.Proof

end
